-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_normal [hPre_normal : Cert.Pre_normal.Facts] (m : (ℓ : Loc Cert.KernelIdeal.nD Cert.KernelIdeal.τ Cert.KernelIdeal.sig) → Buf (Elt Ideal) ℓ) : Prop :=
  ∀ c : Dev Cert.KernelIdeal.nD,
    (Cert.Pre_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 = (fun _ => 1#1)
    ∧ (Cert.Pre_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_normal [hPre_normal : Cert.Pre_normal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.1 = (fun _ => 1#1)
    ∧ (Cert.Pre_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_normal [hKernelIdeal : Cert.KernelIdeal.Facts] [hPre_normal : Cert.Pre_normal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_normal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_normal [hReferenceIdeal : Cert.ReferenceIdeal.Facts] [hPre_normal : Cert.Pre_normal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_normal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_normal [hKernelIdeal : Cert.KernelIdeal.Facts] [hReferenceIdeal : Cert.ReferenceIdeal.Facts] [hPre_normal : Cert.Pre_normal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_normal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_v2_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_normal : Cert.Pre_normal.Facts),
    quiescent_Kernel (hKernel := hKernel)
    ∧ quiescent_KernelIdeal (hKernelIdeal := hKernelIdeal)
    ∧ quiescent_KernelIdeal_pre_normal (hKernelIdeal := hKernelIdeal) (hPre_normal := hPre_normal)
    ∧ quiescent_ReferenceIdeal (hReferenceIdeal := hReferenceIdeal)
    ∧ quiescent_ReferenceIdeal_pre_normal (hReferenceIdeal := hReferenceIdeal) (hPre_normal := hPre_normal)
    ∧ preserves_Kernel_KernelIdeal
    ∧ algebraic_KernelIdeal_ReferenceIdeal_pre_normal (hKernelIdeal := hKernelIdeal) (hReferenceIdeal := hReferenceIdeal) (hPre_normal := hPre_normal)
-- ==== Pre_normal.lean ====
abbrev S1x256x7168 : Shape := ⟨3, ![1, 256, 7168]⟩
abbrev S1x256x2560 : Shape := ⟨3, ![1, 256, 2560]⟩
abbrev S_ : Shape := ⟨0, ![]⟩
abbrev S2x128x7168 : Shape := ⟨3, ![2, 128, 7168]⟩
abbrev S2x7168 : Shape := ⟨2, ![2, 7168]⟩
abbrev S2x128x2560 : Shape := ⟨3, ![2, 128, 2560]⟩
abbrev S2x2560 : Shape := ⟨2, ![2, 2560]⟩

class Facts : Prop where
  bcast_S_S1x256x7168 : S_.BroadcastsInDim S1x256x7168 (![] : Fin 0 → Fin S1x256x7168.rank)
  bcast_S_S1x256x2560 : S_.BroadcastsInDim S1x256x2560 (![] : Fin 0 → Fin S1x256x2560.rank)
  bitsLt_bf16_f32 : FTy.bits .bf16 < FTy.bits .f32
  shapeCasts_S1x256x7168_S2x128x7168 : S1x256x7168.ShapeCasts S2x128x7168
  reducesTo_S2x128x7168_S2x7168_d1 : S2x128x7168.ReducesTo [1] S2x7168
  h_S_ : 0 < S_.numel
  bcast_S_S2x7168 : S_.BroadcastsInDim S2x7168 (![] : Fin 0 → Fin S2x7168.rank)
  shapeCasts_S1x256x2560_S2x128x2560 : S1x256x2560.ShapeCasts S2x128x2560
  reducesTo_S2x128x2560_S2x2560_d1 : S2x128x2560.ReducesTo [1] S2x2560
  bcast_S_S2x2560 : S_.BroadcastsInDim S2x2560 (![] : Fin 0 → Fin S2x2560.rank)

variable [Facts]

def fn_part1 {F : FTy → Type} [FloatOps F] (main_v2 : IVec S1x256x7168 1) (main_v5 : IVec S1x256x2560 1) (main_v16 : IVec S2x7168 1) (main_v17 : FVec F S1x256x2560 .f32) : IVec S1x256x7168 1 × IVec S1x256x2560 1 × IVec S2x7168 1 × IVec S2x2560 1 :=
  let main_v18 : FVec F S2x128x2560 .f32 := shapeCast S2x128x2560 main_v17 shapeCasts_S1x256x2560_S2x128x2560
  let main_v19 : FVec F S2x128x2560 .f32 := Host.absf main_v18
  let main_cst_5 : FVec F S_ .f32 := constant S_ .f32 0xFF800000#32
  let main_v20 : FVec F S2x2560 .f32 := (fun x v => Host.reduce FloatOps.maximumf x v reducesTo_S2x128x2560_S2x2560_d1 h_S_) main_v19 main_cst_5
  let main_cst_6 : FVec F S_ .f32 := constant S_ .f32 0x00000000#32
  let main_v21 : FVec F S2x2560 .f32 := broadcastInDim S2x2560 ![] bcast_S_S2x2560 main_cst_6
  let main_v22 : IVec S2x2560 1 := cmpf .oeq main_v20 main_v21
  let main_cst_7 : FVec F S_ .f32 := constant S_ .f32 0x3B124925#32
  let main_v23 : FVec F S2x2560 .f32 := broadcastInDim S2x2560 ![] bcast_S_S2x2560 main_cst_7
  let main_v24 : FVec F S2x2560 .f32 := mulf main_v20 main_v23
  let main_cst_8 : FVec F S_ .f32 := constant S_ .f32 0x00800000#32
  let main_v25 : FVec F S2x2560 .f32 := broadcastInDim S2x2560 ![] bcast_S_S2x2560 main_cst_8
  let main_v26 : IVec S2x2560 1 := cmpf .oge main_v24 main_v25
  let main_v27 : IVec S2x2560 1 := ori main_v22 main_v26
  (main_v2, main_v5, main_v16, main_v27)

def fn {F : FTy → Type} [FloatOps F] (main_arg0 : FVec F S1x256x7168 .bf16) (main_arg1 : FVec F S1x256x2560 .bf16) : IVec S1x256x7168 1 × IVec S1x256x2560 1 × IVec S2x7168 1 × IVec S2x2560 1 :=
  let main_v0 : FVec F S1x256x7168 .bf16 := Host.absf main_arg0
  let main_cst : FVec F S_ .bf16 := constant S_ .bf16 0x7F7F#16
  let main_v1 : FVec F S1x256x7168 .bf16 := broadcastInDim S1x256x7168 ![] bcast_S_S1x256x7168 main_cst
  let main_v2 : IVec S1x256x7168 1 := cmpf .ole main_v0 main_v1
  let main_v3 : FVec F S1x256x2560 .bf16 := Host.absf main_arg1
  let main_cst_0 : FVec F S_ .bf16 := constant S_ .bf16 0x7F7F#16
  let main_v4 : FVec F S1x256x2560 .bf16 := broadcastInDim S1x256x2560 ![] bcast_S_S1x256x2560 main_cst_0
  let main_v5 : IVec S1x256x2560 1 := cmpf .ole main_v3 main_v4
  let main_v6 : FVec F S1x256x7168 .f32 := (extf .f32 · bitsLt_bf16_f32) main_arg0
  let main_v7 : FVec F S2x128x7168 .f32 := shapeCast S2x128x7168 main_v6 shapeCasts_S1x256x7168_S2x128x7168
  let main_v8 : FVec F S2x128x7168 .f32 := Host.absf main_v7
  let main_cst_1 : FVec F S_ .f32 := constant S_ .f32 0xFF800000#32
  let main_v9 : FVec F S2x7168 .f32 := (fun x v => Host.reduce FloatOps.maximumf x v reducesTo_S2x128x7168_S2x7168_d1 h_S_) main_v8 main_cst_1
  let main_cst_2 : FVec F S_ .f32 := constant S_ .f32 0x00000000#32
  let main_v10 : FVec F S2x7168 .f32 := broadcastInDim S2x7168 ![] bcast_S_S2x7168 main_cst_2
  let main_v11 : IVec S2x7168 1 := cmpf .oeq main_v9 main_v10
  let main_cst_3 : FVec F S_ .f32 := constant S_ .f32 0x3B124925#32
  let main_v12 : FVec F S2x7168 .f32 := broadcastInDim S2x7168 ![] bcast_S_S2x7168 main_cst_3
  let main_v13 : FVec F S2x7168 .f32 := mulf main_v9 main_v12
  let main_cst_4 : FVec F S_ .f32 := constant S_ .f32 0x00800000#32
  let main_v14 : FVec F S2x7168 .f32 := broadcastInDim S2x7168 ![] bcast_S_S2x7168 main_cst_4
  let main_v15 : IVec S2x7168 1 := cmpf .oge main_v13 main_v14
  let main_v16 : IVec S2x7168 1 := ori main_v11 main_v15
  let main_v17 : FVec F S1x256x2560 .f32 := (extf .f32 · bitsLt_bf16_f32) main_arg1
  fn_part1 (F := F) main_v2 main_v5 main_v16 main_v17
-- ==== Kernel.lean ====
abbrev S1x256x7168 : Shape := ⟨3, ![1, 256, 7168]⟩
abbrev S1x256x2560 : Shape := ⟨3, ![1, 256, 2560]⟩
abbrev S256x7168 : Shape := ⟨2, ![256, 7168]⟩
abbrev S256x2560 : Shape := ⟨2, ![256, 2560]⟩
abbrev S7168x2560 : Shape := ⟨2, ![7168, 2560]⟩
abbrev S2x7168 : Shape := ⟨2, ![2, 7168]⟩
abbrev S2x2560 : Shape := ⟨2, ![2, 2560]⟩
abbrev S8x256x2560 : Shape := ⟨3, ![8, 256, 2560]⟩
abbrev S3 : Shape := ⟨1, ![3]⟩
abbrev S8 : Shape := ⟨1, ![8]⟩
abbrev S_ : Shape := ⟨0, ![]⟩
abbrev S2 : Shape := ⟨1, ![2]⟩
abbrev S1 : Shape := ⟨1, ![1]⟩
abbrev S256x256 : Shape := ⟨2, ![256, 256]⟩
abbrev S256x6912 : Shape := ⟨2, ![256, 6912]⟩
abbrev S128x256 : Shape := ⟨2, ![128, 256]⟩
abbrev S256 : Shape := ⟨1, ![256]⟩
abbrev S1x256 : Shape := ⟨2, ![1, 256]⟩
abbrev S1x256x256 : Shape := ⟨3, ![1, 256, 256]⟩

abbrev nBuf : Space → Nat
  | .hbm => 9
  | .vmem => 8
  | .smem => 0
  | _ => 0

abbrev bufTy : (tb : Table) → Fin (tcTables nBuf tb) → BufTy
  | .hbm, ⟨0, _⟩ => ⟨S1x256x7168, .bf16⟩
  | .hbm, ⟨1, _⟩ => ⟨S1x256x2560, .bf16⟩
  | .hbm, ⟨2, _⟩ => ⟨S256x7168, .bf16⟩
  | .hbm, ⟨3, _⟩ => ⟨S256x2560, .bf16⟩
  | .hbm, ⟨4, _⟩ => ⟨S7168x2560, .f32⟩
  | .hbm, ⟨5, _⟩ => ⟨S256x7168, .fp8e4m3⟩
  | .hbm, ⟨6, _⟩ => ⟨S2x7168, .f32⟩
  | .hbm, ⟨7, _⟩ => ⟨S256x2560, .fp8e4m3⟩
  | .hbm, ⟨8, _⟩ => ⟨S2x2560, .f32⟩
  | .local _ .vmem, ⟨0, _⟩ => ⟨S256x7168, .bf16⟩
  | .local _ .vmem, ⟨1, _⟩ => ⟨S256x2560, .bf16⟩
  | .local _ .vmem, ⟨2, _⟩ => ⟨S256x2560, .bf16⟩
  | .local _ .vmem, ⟨3, _⟩ => ⟨S256x7168, .fp8e4m3⟩
  | .local _ .vmem, ⟨4, _⟩ => ⟨S2x7168, .f32⟩
  | .local _ .vmem, ⟨5, _⟩ => ⟨S256x2560, .fp8e4m3⟩
  | .local _ .vmem, ⟨6, _⟩ => ⟨S2x2560, .f32⟩
  | .local _ .vmem, ⟨7, _⟩ => ⟨S8x256x2560, .f32⟩
  | _, _ => ⟨S1x256x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v2_4 : Ref sig .tc := ⟨.hbm, 8, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩

abbrev nD : Nat := 1
abbrev τ : Topo := Topo.v7x

variable {F : FTy → Type} [FloatOps F]

abbrev grid0 : Pipeline.Grid := .none

@[reducible] def k0_t1_loop : Scf.Loop 32 :=
  let c0_i32_716 : BitVec 32 := 0#32
  let c28_i32 : BitVec 32 := 28#32
  let v2122 : BitVec 32 := Scalar.addi c0_i32_716 c28_i32
  let c1_i32_717 : BitVec 32 := 1#32
  ⟨c0_i32_716, v2122, c1_i32_717⟩
def k0_cond1 (k0_t1 : Fin k0_t1_loop.trips) : BitVec 1 :=
  let c0_i32_716 : BitVec 32 := 0#32
  let c1_i32_717 : BitVec 32 := 1#32
  let arg19 : BitVec 32 := Scf.iv c0_i32_716 c1_i32_717 k0_t1
  let c8_i32_759 : BitVec 32 := 8#32
  let v2170 : BitVec 1 := Scalar.cmpi .sge arg19 c8_i32_759
  let v2171 : BitVec 32 := Scalar.extui v2170
  let c0_i32_760 : BitVec 32 := 0#32
  let v2172 : BitVec 1 := Scalar.cmpi .ne v2171 c0_i32_760
  v2172

def k0_off1 (k0_t1 : Fin k0_t1_loop.trips) : Fin 1 → Nat :=
  let c0_i32_716 : BitVec 32 := 0#32
  let c1_i32_717 : BitVec 32 := 1#32
  let arg19 : BitVec 32 := Scf.iv c0_i32_716 c1_i32_717 k0_t1
  let c8_i32_758 : BitVec 32 := 8#32
  let v2169 : BitVec 32 := Scalar.remsi arg19 c8_i32_758
  ![v2169.toNat]
def k0_off2 (k0_t1 : Fin k0_t1_loop.trips) : Fin 2 → Nat :=
  let c0_i32_716 : BitVec 32 := 0#32
  let c1_i32_717 : BitVec 32 := 1#32
  let arg19 : BitVec 32 := Scf.iv c0_i32_716 c1_i32_717 k0_t1
  let c8_i32_880 : BitVec 32 := 8#32
  let v2455 : BitVec 32 := Scalar.subi arg19 c8_i32_880
  let c256_i32_881 : BitVec 32 := 256#32
  let v2456 : BitVec 32 := Scalar.muli v2455 c256_i32_881
  let c0_i32_882 : BitVec 32 := 0#32
  ![v2456.toNat, 0]
def k0_off3 (k0_t1 : Fin k0_t1_loop.trips) : Fin 3 → Nat :=
  let c0_i32_716 : BitVec 32 := 0#32
  let c1_i32_717 : BitVec 32 := 1#32
  let arg19 : BitVec 32 := Scf.iv c0_i32_716 c1_i32_717 k0_t1
  let c8_i32_758 : BitVec 32 := 8#32
  let v2169 : BitVec 32 := Scalar.remsi arg19 c8_i32_758
  let c0_i32_883 : BitVec 32 := 0#32
  let c0_i32_884 : BitVec 32 := 0#32
  ![v2169.toNat, 0, 0]
def k0_mult1 (k0_t1 : Fin k0_t1_loop.trips) : BitVec 32 :=
  let c0_i32_716 : BitVec 32 := 0#32
  let c1_i32_717 : BitVec 32 := 1#32
  let arg19 : BitVec 32 := Scf.iv c0_i32_716 c1_i32_717 k0_t1
  let c256_i32_761 : BitVec 32 := 256#32
  let v2173 : BitVec 32 := Scalar.muli arg19 c256_i32_761
  v2173
def k0_off4 (k0_t1 : Fin k0_t1_loop.trips) : Fin 2 → Nat :=
  let c0_762 : Index := 0#32
  let c0_i32_716 : BitVec 32 := 0#32
  let c1_i32_717 : BitVec 32 := 1#32
  let arg19 : BitVec 32 := Scf.iv c0_i32_716 c1_i32_717 k0_t1
  let c256_i32_761 : BitVec 32 := 256#32
  let v2173 : BitVec 32 := Scalar.muli arg19 c256_i32_761
  let v2174 : BitVec 32 := v2173
  let v2175 : Index := Scalar.indexCast v2174
  ![0, v2175.toNat]
def k0_off5 (k0_t1 : Fin k0_t1_loop.trips) : Fin 2 → Nat :=
  let c0_793 : Index := 0#32
  let c0_i32_716 : BitVec 32 := 0#32
  let c1_i32_717 : BitVec 32 := 1#32
  let arg19 : BitVec 32 := Scf.iv c0_i32_716 c1_i32_717 k0_t1
  let c256_i32_761 : BitVec 32 := 256#32
  let v2173 : BitVec 32 := Scalar.muli arg19 c256_i32_761
  let v2174 : BitVec 32 := v2173
  let v2273 : Index := Scalar.indexCast v2174
  ![0, v2273.toNat]
def k0_off6 (k0_t1 : Fin k0_t1_loop.trips) : Fin 2 → Nat :=
  let c128_794 : Index := 128#32
  let c0_i32_716 : BitVec 32 := 0#32
  let c1_i32_717 : BitVec 32 := 1#32
  let arg19 : BitVec 32 := Scf.iv c0_i32_716 c1_i32_717 k0_t1
  let c256_i32_761 : BitVec 32 := 256#32
  let v2173 : BitVec 32 := Scalar.muli arg19 c256_i32_761
  let v2174 : BitVec 32 := v2173
  let v2281 : Index := Scalar.indexCast v2174
  ![128, v2281.toNat]
def k0_off7 (k0_t1 : Fin k0_t1_loop.trips) : Fin 2 → Nat :=
  let c1_825 : Index := 1#32
  let c0_i32_716 : BitVec 32 := 0#32
  let c1_i32_717 : BitVec 32 := 1#32
  let arg19 : BitVec 32 := Scf.iv c0_i32_716 c1_i32_717 k0_t1
  let c256_i32_761 : BitVec 32 := 256#32
  let v2173 : BitVec 32 := Scalar.muli arg19 c256_i32_761
  let v2174 : BitVec 32 := v2173
  let v2379 : Index := Scalar.indexCast v2174
  ![1, v2379.toNat]
def k0_off8 (k0_t1 : Fin k0_t1_loop.trips) : Fin 3 → Nat :=
  let c0_i32_716 : BitVec 32 := 0#32
  let c1_i32_717 : BitVec 32 := 1#32
  let arg19 : BitVec 32 := Scf.iv c0_i32_716 c1_i32_717 k0_t1
  let c8_i32_758 : BitVec 32 := 8#32
  let v2169 : BitVec 32 := Scalar.remsi arg19 c8_i32_758
  let v2391 : Index := Scalar.indexCast v2169
  let c0_829 : Index := 0#32
  let c0_830 : Index := 0#32
  ![v2391.toNat, 0, 0]
def k0_off9 (k0_t1 : Fin k0_t1_loop.trips) : Fin 3 → Nat :=
  let c0_i32_716 : BitVec 32 := 0#32
  let c1_i32_717 : BitVec 32 := 1#32
  let arg19 : BitVec 32 := Scf.iv c0_i32_716 c1_i32_717 k0_t1
  let c8_i32_758 : BitVec 32 := 8#32
  let v2169 : BitVec 32 := Scalar.remsi arg19 c8_i32_758
  let v2397 : Index := Scalar.indexCast v2169
  let c0_834 : Index := 0#32
  let c256_835 : Index := 256#32
  ![v2397.toNat, 0, 256]
def k0_off10 (k0_t1 : Fin k0_t1_loop.trips) : Fin 3 → Nat :=
  let c0_i32_716 : BitVec 32 := 0#32
  let c1_i32_717 : BitVec 32 := 1#32
  let arg19 : BitVec 32 := Scf.iv c0_i32_716 c1_i32_717 k0_t1
  let c8_i32_758 : BitVec 32 := 8#32
  let v2169 : BitVec 32 := Scalar.remsi arg19 c8_i32_758
  let v2403 : Index := Scalar.indexCast v2169
  let c0_839 : Index := 0#32
  let c512_840 : Index := 512#32
  ![v2403.toNat, 0, 512]
def k0_off11 (k0_t1 : Fin k0_t1_loop.trips) : Fin 3 → Nat :=
  let c0_i32_716 : BitVec 32 := 0#32
  let c1_i32_717 : BitVec 32 := 1#32
  let arg19 : BitVec 32 := Scf.iv c0_i32_716 c1_i32_717 k0_t1
  let c8_i32_758 : BitVec 32 := 8#32
  let v2169 : BitVec 32 := Scalar.remsi arg19 c8_i32_758
  let v2409 : Index := Scalar.indexCast v2169
  let c0_844 : Index := 0#32
  let c768_845 : Index := 768#32
  ![v2409.toNat, 0, 768]
def k0_off12 (k0_t1 : Fin k0_t1_loop.trips) : Fin 3 → Nat :=
  let c0_i32_716 : BitVec 32 := 0#32
  let c1_i32_717 : BitVec 32 := 1#32
  let arg19 : BitVec 32 := Scf.iv c0_i32_716 c1_i32_717 k0_t1
  let c8_i32_758 : BitVec 32 := 8#32
  let v2169 : BitVec 32 := Scalar.remsi arg19 c8_i32_758
  let v2415 : Index := Scalar.indexCast v2169
  let c0_849 : Index := 0#32
  let c1024_850 : Index := 1024#32
  ![v2415.toNat, 0, 1024]
def k0_off13 (k0_t1 : Fin k0_t1_loop.trips) : Fin 3 → Nat :=
  let c0_i32_716 : BitVec 32 := 0#32
  let c1_i32_717 : BitVec 32 := 1#32
  let arg19 : BitVec 32 := Scf.iv c0_i32_716 c1_i32_717 k0_t1
  let c8_i32_758 : BitVec 32 := 8#32
  let v2169 : BitVec 32 := Scalar.remsi arg19 c8_i32_758
  let v2421 : Index := Scalar.indexCast v2169
  let c0_854 : Index := 0#32
  let c1280_855 : Index := 1280#32
  ![v2421.toNat, 0, 1280]
def k0_off14 (k0_t1 : Fin k0_t1_loop.trips) : Fin 3 → Nat :=
  let c0_i32_716 : BitVec 32 := 0#32
  let c1_i32_717 : BitVec 32 := 1#32
  let arg19 : BitVec 32 := Scf.iv c0_i32_716 c1_i32_717 k0_t1
  let c8_i32_758 : BitVec 32 := 8#32
  let v2169 : BitVec 32 := Scalar.remsi arg19 c8_i32_758
  let v2427 : Index := Scalar.indexCast v2169
  let c0_859 : Index := 0#32
  let c1536_860 : Index := 1536#32
  ![v2427.toNat, 0, 1536]
def k0_off15 (k0_t1 : Fin k0_t1_loop.trips) : Fin 3 → Nat :=
  let c0_i32_716 : BitVec 32 := 0#32
  let c1_i32_717 : BitVec 32 := 1#32
  let arg19 : BitVec 32 := Scf.iv c0_i32_716 c1_i32_717 k0_t1
  let c8_i32_758 : BitVec 32 := 8#32
  let v2169 : BitVec 32 := Scalar.remsi arg19 c8_i32_758
  let v2433 : Index := Scalar.indexCast v2169
  let c0_864 : Index := 0#32
  let c1792_865 : Index := 1792#32
  ![v2433.toNat, 0, 1792]
def k0_off16 (k0_t1 : Fin k0_t1_loop.trips) : Fin 3 → Nat :=
  let c0_i32_716 : BitVec 32 := 0#32
  let c1_i32_717 : BitVec 32 := 1#32
  let arg19 : BitVec 32 := Scf.iv c0_i32_716 c1_i32_717 k0_t1
  let c8_i32_758 : BitVec 32 := 8#32
  let v2169 : BitVec 32 := Scalar.remsi arg19 c8_i32_758
  let v2439 : Index := Scalar.indexCast v2169
  let c0_869 : Index := 0#32
  let c2048_870 : Index := 2048#32
  ![v2439.toNat, 0, 2048]
def k0_off17 (k0_t1 : Fin k0_t1_loop.trips) : Fin 3 → Nat :=
  let c0_i32_716 : BitVec 32 := 0#32
  let c1_i32_717 : BitVec 32 := 1#32
  let arg19 : BitVec 32 := Scf.iv c0_i32_716 c1_i32_717 k0_t1
  let c8_i32_758 : BitVec 32 := 8#32
  let v2169 : BitVec 32 := Scalar.remsi arg19 c8_i32_758
  let v2445 : Index := Scalar.indexCast v2169
  let c0_874 : Index := 0#32
  let c2304_875 : Index := 2304#32
  ![v2445.toNat, 0, 2304]
def k0_off18 (k0_t1 : Fin k0_t1_loop.trips) : Fin 1 → Nat :=
  let c0_i32_716 : BitVec 32 := 0#32
  let c1_i32_717 : BitVec 32 := 1#32
  let arg19 : BitVec 32 := Scf.iv c0_i32_716 c1_i32_717 k0_t1
  let c8_i32_758 : BitVec 32 := 8#32
  let v2169 : BitVec 32 := Scalar.remsi arg19 c8_i32_758
  ![v2169.toNat]
def k0_off19 (k0_t1 : Fin k0_t1_loop.trips) : Fin 2 → Nat :=
  let c0_i32_716 : BitVec 32 := 0#32
  let c1_i32_717 : BitVec 32 := 1#32
  let arg19 : BitVec 32 := Scf.iv c0_i32_716 c1_i32_717 k0_t1
  let c256_i32_876 : BitVec 32 := 256#32
  let v2449 : BitVec 32 := Scalar.muli arg19 c256_i32_876
  let c0_i32_877 : BitVec 32 := 0#32
  ![v2449.toNat, 0]
def k0_off20 (k0_t1 : Fin k0_t1_loop.trips) : Fin 3 → Nat :=
  let c0_i32_716 : BitVec 32 := 0#32
  let c1_i32_717 : BitVec 32 := 1#32
  let arg19 : BitVec 32 := Scf.iv c0_i32_716 c1_i32_717 k0_t1
  let c8_i32_758 : BitVec 32 := 8#32
  let v2169 : BitVec 32 := Scalar.remsi arg19 c8_i32_758
  let c0_i32_878 : BitVec 32 := 0#32
  let c0_i32_879 : BitVec 32 := 0#32
  ![v2169.toNat, 0, 0]
-- ==== ReferenceIdeal.lean ====
abbrev S1x256x7168 : Shape := ⟨3, ![1, 256, 7168]⟩
abbrev S1x256x2560 : Shape := ⟨3, ![1, 256, 2560]⟩
abbrev S256x7168 : Shape := ⟨2, ![256, 7168]⟩
abbrev S256x2560 : Shape := ⟨2, ![256, 2560]⟩
abbrev S7168x2560 : Shape := ⟨2, ![7168, 2560]⟩
abbrev S2x7168 : Shape := ⟨2, ![2, 7168]⟩
abbrev S2x2560 : Shape := ⟨2, ![2, 2560]⟩
abbrev S2x128x7168 : Shape := ⟨3, ![2, 128, 7168]⟩
abbrev S2x1x7168 : Shape := ⟨3, ![2, 1, 7168]⟩
abbrev S2x128x2560 : Shape := ⟨3, ![2, 128, 2560]⟩
abbrev S2x1x2560 : Shape := ⟨3, ![2, 1, 2560]⟩

abbrev nBuf : Space → Nat
  | .hbm => 9
  | .vmem => 7
  | .smem => 0
  | _ => 0

abbrev bufTy : (tb : Table) → Fin (tcTables nBuf tb) → BufTy
  | .hbm, ⟨0, _⟩ => ⟨S1x256x7168, .bf16⟩
  | .hbm, ⟨1, _⟩ => ⟨S1x256x2560, .bf16⟩
  | .hbm, ⟨2, _⟩ => ⟨S256x7168, .bf16⟩
  | .hbm, ⟨3, _⟩ => ⟨S256x2560, .bf16⟩
  | .hbm, ⟨4, _⟩ => ⟨S7168x2560, .f32⟩
  | .hbm, ⟨5, _⟩ => ⟨S256x7168, .fp8e4m3⟩
  | .hbm, ⟨6, _⟩ => ⟨S2x7168, .f32⟩
  | .hbm, ⟨7, _⟩ => ⟨S256x2560, .fp8e4m3⟩
  | .hbm, ⟨8, _⟩ => ⟨S2x2560, .f32⟩
  | .local _ .vmem, ⟨0, _⟩ => ⟨S256x7168, .bf16⟩
  | .local _ .vmem, ⟨1, _⟩ => ⟨S256x2560, .bf16⟩
  | .local _ .vmem, ⟨2, _⟩ => ⟨S7168x2560, .f32⟩
  | .local _ .vmem, ⟨3, _⟩ => ⟨S256x7168, .fp8e4m3⟩
  | .local _ .vmem, ⟨4, _⟩ => ⟨S2x7168, .f32⟩
  | .local _ .vmem, ⟨5, _⟩ => ⟨S256x2560, .fp8e4m3⟩
  | .local _ .vmem, ⟨6, _⟩ => ⟨S2x2560, .f32⟩
  | _, _ => ⟨S1x256x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v2_4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S256x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x7168 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x2560 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x2560 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Names.lean ====
/-
  Names for the pieces of storage the kernel's loop works on, and the closed forms of the offsets its body computes:
  the slot of the ring buffer that trip `k` fills (`k % 8`), that slot's semaphore, and the block of 256 rows of the
  first result that trip `k` produces.
-/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Adequacy
public import Idealize.ShloMosaic.Init

@[expose] public section

noncomputable section

namespace Cert.Proof.Wgrad

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## The buffers -/

abbrev xM : Memref sig .tc .hbm S256x7168 .bf16 := Memref.whole main_v0
abbrev dyM : Memref sig .tc .hbm S256x2560 .bf16 := Memref.whole main_v1
abbrev dwM : Memref sig .tc .hbm S7168x2560 .f32 := Memref.whole main_v2_0
abbrev xcM : Memref sig .tc .hbm S256x7168 .fp8e4m3 := Memref.whole main_v2_1
abbrev xsM : Memref sig .tc .hbm S2x7168 .f32 := Memref.whole main_v2_2
abbrev dycM : Memref sig .tc .hbm S256x2560 .fp8e4m3 := Memref.whole main_v2_3
abbrev dysM : Memref sig .tc .hbm S2x2560 .f32 := Memref.whole main_v2_4
abbrev xvM : Memref sig .tc .vmem S256x7168 .bf16 := Memref.whole cc0_scratch0
abbrev dyvM : Memref sig .tc .vmem S256x2560 .bf16 := Memref.whole cc0_scratch1
abbrev dqM : Memref sig .tc .vmem S256x2560 .bf16 := Memref.whole cc0_scratch2
abbrev xcvM : Memref sig .tc .vmem S256x7168 .fp8e4m3 := Memref.whole cc0_scratch3
abbrev xsvM : Memref sig .tc .vmem S2x7168 .f32 := Memref.whole cc0_scratch4
abbrev dycvM : Memref sig .tc .vmem S256x2560 .fp8e4m3 := Memref.whole cc0_scratch5
abbrev dysvM : Memref sig .tc .vmem S2x2560 .f32 := Memref.whole cc0_scratch6
abbrev ringM : Memref sig .tc .vmem S8x256x2560 .f32 := Memref.whole cc0_scratch7

/-! ## Canonical names -/

abbrev slotOff (s : Fin 8) : Fin 3 → Nat := ![s.val, 0, 0]
theorem slotOff_inb (s : Fin 8) : ∀ a, slotOff s a + S1x256x2560.size a ≤ S8x256x2560.size a := by
  have := s.isLt; intro a; fin_cases a
  · show s.val + 1 ≤ 8; omega
  · show 0 + 256 ≤ 256; omega
  · show 0 + 2560 ≤ 2560; omega
abbrev semOff (s : Fin 8) : Fin 1 → Nat := ![s.val]
theorem semOff_inb (s : Fin 8) : ∀ a, semOff s a + S1.size a ≤ S8.size a := by
  have := s.isLt; intro a; fin_cases a; show s.val + 1 ≤ 8; omega
abbrev rowOff (b : Fin 28) : Fin 2 → Nat := ![b.val * 256, 0]
theorem rowOff_inb (b : Fin 28) : ∀ a, rowOff b a + S256x2560.size a ≤ S7168x2560.size a := by
  have := b.isLt; intro a; fin_cases a
  · show b.val * 256 + 256 ≤ 7168; omega
  · show 0 + 2560 ≤ 2560; omega

/-- Slot `s` of the ring buffer, as the body slices and squeezes it. -/
def rslot (s : Fin 8) : Memref sig .tc .vmem S256x2560 .f32 :=
  (ringM.slice (Rect.unit (s := S8x256x2560) (slotOff s) S1x256x2560.size (slotOff_inb s)) (fun _ => rfl)).squeeze S256x2560 squeezes_S1x256x2560_S256x2560
/-- Slot `s`'s semaphore. -/
def csm (s : Fin 8) : DmaSems sig S_ := (cc0_scratch9.slice (Rect.unit (s := S8) (semOff s) S1.size (semOff_inb s))).squeeze S_ squeezes_S1_S_
/-- The semaphores of the three copies in, -/
def ism (i : Fin 3) : DmaSems sig S_ := (cc0_scratch8.slice (Rect.unit (s := S3) (![i.val] : Fin 1 → Nat) S1.size (by
  have := i.isLt; intro a; fin_cases a; show i.val + 1 ≤ 3; omega))).squeeze S_ squeezes_S1_S_
/-- and of the two copies of the scales out. -/
def ssm (i : Fin 2) : DmaSems sig S_ := (cc0_scratch11.slice (Rect.unit (s := S2) (![i.val] : Fin 1 → Nat) S1.size (by
  have := i.isLt; intro a; fin_cases a; show i.val + 1 ≤ 2; omega))).squeeze S_ squeezes_S1_S_
/-- Rows `256 b .. 256 b + 255` of the first result. -/
def dwRow (b : Fin 28) : Memref sig .tc .hbm S256x2560 .f32 :=
  dwM.slice (Rect.unit (s := S7168x2560) (rowOff b) S256x2560.size (rowOff_inb b)) (fun _ => rfl)

/-- The two parts in which `x` is copied in: its first 256 columns, and the rest. -/
def colL {sp} (M : Memref sig .tc sp S256x7168 .bf16) : Memref sig .tc sp S256x256 .bf16 :=
  M.slice (Rect.unit (s := S256x7168) ![0, 0] S256x256.size inb_S256x7168_S256x256_0_0) (fun _ => rfl)
def colR {sp} (M : Memref sig .tc sp S256x7168 .bf16) : Memref sig .tc sp S256x6912 .bf16 :=
  M.slice (Rect.unit (s := S256x7168) ![0, 256] S256x6912.size inb_S256x7168_S256x6912_0_256) (fun _ => rfl)

instance (s : Fin 8) : ClosedOff (slotOff s) := ⟨slotOff s, rfl⟩
instance (b : Fin 28) : ClosedOff (rowOff b) := ⟨rowOff b, rfl⟩

/-! ## The induction variable's chain in closed form -/

section Chain
open Affine

theorem trips_eq : k0_t1_loop.trips = 28 := by decide

variable (k : Fin k0_t1_loop.trips)

theorem trip_lt : k.val < 28 := Nat.lt_of_lt_of_eq k.isLt trips_eq

theorem isInt_iv : IsInt (Scf.iv 0#32 1#32 k.val) k.val := by
  have := trip_lt k
  exact iv (e := k.val) (ofNat (e := 0) 0 ⟨rfl, by decide⟩) (ofNat (e := 1) 1 ⟨rfl, by decide⟩) k.val ⟨by omega, by omega, by omega⟩
theorem isInt_rem : IsInt (Scalar.remsi (Scf.iv 0#32 1#32 k.val) 8#32) (k.val % 8 : Nat) :=
  remsi (e := (k.val % 8 : Nat)) (isInt_iv k) (ofNat (e := 8) 8 ⟨rfl, by decide⟩) ⟨by omega, by omega, by omega⟩
theorem isInt_mul : IsInt (Scalar.muli (Scf.iv 0#32 1#32 k.val) 256#32) (k.val * 256 : Nat) := by
  have := trip_lt k
  exact muli (e := (k.val * 256 : Nat)) (isInt_iv k) (ofNat (e := 256) 256 ⟨rfl, by decide⟩) ⟨by push_cast; omega, by omega, by push_cast; omega⟩
theorem isInt_sub (h8 : 8 ≤ k.val) : IsInt (Scalar.subi (Scf.iv 0#32 1#32 k.val) 8#32) (k.val - 8 : Nat) := by
  have := trip_lt k
  exact subi (e := (k.val - 8 : Nat)) (isInt_iv k) (ofNat (e := 8) 8 ⟨rfl, by decide⟩) ⟨by omega, by omega, by omega⟩
theorem isInt_submul (h8 : 8 ≤ k.val) : IsInt (Scalar.muli (Scalar.subi (Scf.iv 0#32 1#32 k.val) 8#32) 256#32) ((k.val - 8) * 256 : Nat) := by
  have := trip_lt k
  exact muli (e := ((k.val - 8) * 256 : Nat)) (isInt_sub k h8) (ofNat (e := 256) 256 ⟨rfl, by decide⟩) ⟨by push_cast; omega, by omega, by push_cast; omega⟩

/-- A trip waits for the slot it is about to fill exactly when it is the eighth or later. -/
theorem cond_iff : (k0_cond1 k = 1#1) ↔ 8 ≤ k.val := by
  revert k; decide

theorem off1_eq : k0_off1 k = semOff (Ring.sl 8 k.val) := vec_cons (isInt_rem k) (by simp [Ring.sl, Fin.ofNat]) vec_nil
theorem off2_eq (h8 : 8 ≤ k.val) : k0_off2 k = rowOff (Ring.bk 28 (k.val - 8)) := by
  have := trip_lt k
  exact vec_cons (isInt_submul k h8) (by rw [Ring.bk_val (show k.val - 8 < 28 by omega)]) rfl
theorem off3_eq : k0_off3 k = slotOff (Ring.sl 8 k.val) := vec_cons (isInt_rem k) (by simp [Ring.sl, Fin.ofNat]) rfl
theorem off18_eq : k0_off18 k = semOff (Ring.sl 8 k.val) := vec_cons (isInt_rem k) (by simp [Ring.sl, Fin.ofNat]) vec_nil
theorem off19_eq : k0_off19 k = rowOff (Ring.bk 28 k.val) :=
  vec_cons (isInt_mul k) (by rw [Ring.bk_val (trip_lt k)]) rfl
theorem off20_eq : k0_off20 k = slotOff (Ring.sl 8 k.val) := vec_cons (isInt_rem k) (by simp [Ring.sl, Fin.ofNat]) rfl

/-- The columns of the trip's block of `x`: the first group of 128 rows, -/
theorem off4_eq : k0_off4 k = ![0, k.val * 256] := vec_cons (ofNat (e := 0) 0 ⟨rfl, by decide⟩) rfl (vec_cons (indexCast (isInt_mul k)) rfl vec_nil)
theorem off5_eq : k0_off5 k = ![0, k.val * 256] := vec_cons (ofNat (e := 0) 0 ⟨rfl, by decide⟩) rfl (vec_cons (indexCast (isInt_mul k)) rfl vec_nil)
/-- and the second. -/
theorem off6_eq : k0_off6 k = ![128, k.val * 256] := vec_cons (ofNat (e := 128) 128 ⟨rfl, by decide⟩) rfl (vec_cons (indexCast (isInt_mul k)) rfl vec_nil)
theorem off7_eq : k0_off7 k = ![1, k.val * 256] := vec_cons (ofNat (e := 1) 1 ⟨rfl, by decide⟩) rfl (vec_cons (indexCast (isInt_mul k)) rfl vec_nil)

/-- The ten column tiles of the slot. -/
theorem off8_eq : k0_off8 k = ![(Ring.sl 8 k.val).val, 0, 0] := vec_cons (indexCast (isInt_rem k)) (by simp [Ring.sl, Fin.ofNat]) rfl
theorem off9_eq : k0_off9 k = ![(Ring.sl 8 k.val).val, 0, 256] := vec_cons (indexCast (isInt_rem k)) (by simp [Ring.sl, Fin.ofNat]) rfl
theorem off10_eq : k0_off10 k = ![(Ring.sl 8 k.val).val, 0, 512] := vec_cons (indexCast (isInt_rem k)) (by simp [Ring.sl, Fin.ofNat]) rfl
theorem off11_eq : k0_off11 k = ![(Ring.sl 8 k.val).val, 0, 768] := vec_cons (indexCast (isInt_rem k)) (by simp [Ring.sl, Fin.ofNat]) rfl
theorem off12_eq : k0_off12 k = ![(Ring.sl 8 k.val).val, 0, 1024] := vec_cons (indexCast (isInt_rem k)) (by simp [Ring.sl, Fin.ofNat]) rfl
theorem off13_eq : k0_off13 k = ![(Ring.sl 8 k.val).val, 0, 1280] := vec_cons (indexCast (isInt_rem k)) (by simp [Ring.sl, Fin.ofNat]) rfl
theorem off14_eq : k0_off14 k = ![(Ring.sl 8 k.val).val, 0, 1536] := vec_cons (indexCast (isInt_rem k)) (by simp [Ring.sl, Fin.ofNat]) rfl
theorem off15_eq : k0_off15 k = ![(Ring.sl 8 k.val).val, 0, 1792] := vec_cons (indexCast (isInt_rem k)) (by simp [Ring.sl, Fin.ofNat]) rfl
theorem off16_eq : k0_off16 k = ![(Ring.sl 8 k.val).val, 0, 2048] := vec_cons (indexCast (isInt_rem k)) (by simp [Ring.sl, Fin.ofNat]) rfl
theorem off17_eq : k0_off17 k = ![(Ring.sl 8 k.val).val, 0, 2304] := vec_cons (indexCast (isInt_rem k)) (by simp [Ring.sl, Fin.ofNat]) rfl

instance : ClosedOff (k0_off3 k) := ⟨_, off3_eq k⟩
instance : ClosedOff (k0_off4 k) := ⟨_, off4_eq k⟩
instance : ClosedOff (k0_off5 k) := ⟨_, off5_eq k⟩
instance : ClosedOff (k0_off6 k) := ⟨_, off6_eq k⟩
instance : ClosedOff (k0_off7 k) := ⟨_, off7_eq k⟩
instance : ClosedOff (k0_off8 k) := ⟨_, off8_eq k⟩
instance : ClosedOff (k0_off9 k) := ⟨_, off9_eq k⟩
instance : ClosedOff (k0_off10 k) := ⟨_, off10_eq k⟩
instance : ClosedOff (k0_off11 k) := ⟨_, off11_eq k⟩
instance : ClosedOff (k0_off12 k) := ⟨_, off12_eq k⟩
instance : ClosedOff (k0_off13 k) := ⟨_, off13_eq k⟩
instance : ClosedOff (k0_off14 k) := ⟨_, off14_eq k⟩
instance : ClosedOff (k0_off15 k) := ⟨_, off15_eq k⟩
instance : ClosedOff (k0_off16 k) := ⟨_, off16_eq k⟩
instance : ClosedOff (k0_off17 k) := ⟨_, off17_eq k⟩
instance : ClosedOff (k0_off20 k) := ⟨_, off20_eq k⟩

end Chain

/-! ### The canonical-name equations: the body's slices are `csm`, `rslot`, `dwRow` -/

section Canon

theorem csm_congr {off : Fin 1 → Nat} {s : Fin 8} (e : off = semOff s) (hh) :
    (cc0_scratch9.slice (Rect.unit (s := S8) off S1.size hh)).squeeze S_ squeezes_S1_S_ = csm s :=
  congrArg (fun A : DmaSems sig S1 => A.squeeze S_ squeezes_S1_S_) (SemArray.slice_unit_congr _ e _ _)
theorem rslot_congr {off : Fin 3 → Nat} {s : Fin 8} (e : off = slotOff s) (hh hs) :
    (ringM.slice (Rect.unit (s := S8x256x2560) off S1x256x2560.size hh) hs).squeeze S256x2560 squeezes_S1x256x2560_S256x2560 = rslot s :=
  congrArg (fun M : Memref sig .tc .vmem S1x256x2560 .f32 => M.squeeze S256x2560 squeezes_S1x256x2560_S256x2560) (Memref.slice_unit_congr _ e _ _ _ _)
theorem dwRow_congr {off : Fin 2 → Nat} {b : Fin 28} (e : off = rowOff b) (hh hs) :
    dwM.slice (Rect.unit (s := S7168x2560) off S256x2560.size hh) hs = dwRow b :=
  Memref.slice_unit_congr _ e _ _ _ (fun _ => rfl)

variable (k : Fin k0_t1_loop.trips)

@[sl_canon] theorem semW (hh) :
    (cc0_scratch9.slice (Rect.unit (s := S8) (k0_off1 k) S1.size hh)).squeeze S_ squeezes_S1_S_ = csm (Ring.sl 8 k.val) := csm_congr (off1_eq k) _
@[sl_canon] theorem semI (hh) :
    (cc0_scratch9.slice (Rect.unit (s := S8) (k0_off18 k) S1.size hh)).squeeze S_ squeezes_S1_S_ = csm (Ring.sl 8 k.val) := csm_congr (off18_eq k) _
@[sl_canon] theorem slotW (hh hs) :
    (ringM.slice (Rect.unit (s := S8x256x2560) (k0_off3 k) S1x256x2560.size hh) hs).squeeze S256x2560 squeezes_S1x256x2560_S256x2560 = rslot (Ring.sl 8 k.val) := rslot_congr (off3_eq k) _ _
@[sl_canon] theorem slotI (hh hs) :
    (ringM.slice (Rect.unit (s := S8x256x2560) (k0_off20 k) S1x256x2560.size hh) hs).squeeze S256x2560 squeezes_S1x256x2560_S256x2560 = rslot (Ring.sl 8 k.val) := rslot_congr (off20_eq k) _ _
@[sl_canon] theorem rowW (h8 : 8 ≤ k.val) (hh hs) :
    dwM.slice (Rect.unit (s := S7168x2560) (k0_off2 k) S256x2560.size hh) hs = dwRow (Ring.bk 28 (k.val - 8)) := dwRow_congr (off2_eq k h8) _ _
@[sl_canon] theorem rowI (hh hs) :
    dwM.slice (Rect.unit (s := S7168x2560) (k0_off19 k) S256x2560.size hh) hs = dwRow (Ring.bk 28 k.val) := dwRow_congr (off19_eq k) _ _

/-- The copies in and the copies of the scales out, at literal offsets. -/
@[sl_canon] theorem semIn0 (hh) : (cc0_scratch8.slice (Rect.unit (s := S3) ![0] S1.size hh)).squeeze S_ squeezes_S1_S_ = ism 0 := rfl
@[sl_canon] theorem semIn1 (hh) : (cc0_scratch8.slice (Rect.unit (s := S3) ![1] S1.size hh)).squeeze S_ squeezes_S1_S_ = ism 1 := rfl
@[sl_canon] theorem semIn2 (hh) : (cc0_scratch8.slice (Rect.unit (s := S3) ![2] S1.size hh)).squeeze S_ squeezes_S1_S_ = ism 2 := rfl
@[sl_canon] theorem semSc0 (hh) : (cc0_scratch11.slice (Rect.unit (s := S2) ![0] S1.size hh)).squeeze S_ squeezes_S1_S_ = ssm 0 := rfl
@[sl_canon] theorem semSc1 (hh) : (cc0_scratch11.slice (Rect.unit (s := S2) ![1] S1.size hh)).squeeze S_ squeezes_S1_S_ = ssm 1 := rfl

@[sl_canon] theorem colL_x (hh hs) : xM.slice (Rect.unit (s := S256x7168) ![0, 0] S256x256.size hh) hs = colL xM := rfl
@[sl_canon] theorem colR_x (hh hs) : xM.slice (Rect.unit (s := S256x7168) ![0, 256] S256x6912.size hh) hs = colR xM := rfl
@[sl_canon] theorem colL_xv (hh hs) : xvM.slice (Rect.unit (s := S256x7168) ![0, 0] S256x256.size hh) hs = colL xvM := rfl
@[sl_canon] theorem colR_xv (hh hs) : xvM.slice (Rect.unit (s := S256x7168) ![0, 256] S256x6912.size hh) hs = colR xvM := rfl

/-- After the loop: the slots and rows of the last eight blocks, at literal offsets. -/
@[sl_canon] theorem semL0 (hh) : (cc0_scratch9.slice (Rect.unit (s := S8) ![0] S1.size hh)).squeeze S_ squeezes_S1_S_ = csm 0 := csm_congr (by decide) _
@[sl_canon] theorem semL1 (hh) : (cc0_scratch9.slice (Rect.unit (s := S8) ![1] S1.size hh)).squeeze S_ squeezes_S1_S_ = csm 1 := csm_congr (by decide) _
@[sl_canon] theorem semL2 (hh) : (cc0_scratch9.slice (Rect.unit (s := S8) ![2] S1.size hh)).squeeze S_ squeezes_S1_S_ = csm 2 := csm_congr (by decide) _
@[sl_canon] theorem semL3 (hh) : (cc0_scratch9.slice (Rect.unit (s := S8) ![3] S1.size hh)).squeeze S_ squeezes_S1_S_ = csm 3 := csm_congr (by decide) _
@[sl_canon] theorem semL4 (hh) : (cc0_scratch9.slice (Rect.unit (s := S8) ![4] S1.size hh)).squeeze S_ squeezes_S1_S_ = csm 4 := csm_congr (by decide) _
@[sl_canon] theorem semL5 (hh) : (cc0_scratch9.slice (Rect.unit (s := S8) ![5] S1.size hh)).squeeze S_ squeezes_S1_S_ = csm 5 := csm_congr (by decide) _
@[sl_canon] theorem semL6 (hh) : (cc0_scratch9.slice (Rect.unit (s := S8) ![6] S1.size hh)).squeeze S_ squeezes_S1_S_ = csm 6 := csm_congr (by decide) _
@[sl_canon] theorem semL7 (hh) : (cc0_scratch9.slice (Rect.unit (s := S8) ![7] S1.size hh)).squeeze S_ squeezes_S1_S_ = csm 7 := csm_congr (by decide) _
@[sl_canon] theorem slotL0 (hh hs) : (ringM.slice (Rect.unit (s := S8x256x2560) ![0, 0, 0] S1x256x2560.size hh) hs).squeeze S256x2560 squeezes_S1x256x2560_S256x2560 = rslot 0 := rslot_congr (by decide) _ _
@[sl_canon] theorem slotL1 (hh hs) : (ringM.slice (Rect.unit (s := S8x256x2560) ![1, 0, 0] S1x256x2560.size hh) hs).squeeze S256x2560 squeezes_S1x256x2560_S256x2560 = rslot 1 := rslot_congr (by decide) _ _
@[sl_canon] theorem slotL2 (hh hs) : (ringM.slice (Rect.unit (s := S8x256x2560) ![2, 0, 0] S1x256x2560.size hh) hs).squeeze S256x2560 squeezes_S1x256x2560_S256x2560 = rslot 2 := rslot_congr (by decide) _ _
@[sl_canon] theorem slotL3 (hh hs) : (ringM.slice (Rect.unit (s := S8x256x2560) ![3, 0, 0] S1x256x2560.size hh) hs).squeeze S256x2560 squeezes_S1x256x2560_S256x2560 = rslot 3 := rslot_congr (by decide) _ _
@[sl_canon] theorem slotL4 (hh hs) : (ringM.slice (Rect.unit (s := S8x256x2560) ![4, 0, 0] S1x256x2560.size hh) hs).squeeze S256x2560 squeezes_S1x256x2560_S256x2560 = rslot 4 := rslot_congr (by decide) _ _
@[sl_canon] theorem slotL5 (hh hs) : (ringM.slice (Rect.unit (s := S8x256x2560) ![5, 0, 0] S1x256x2560.size hh) hs).squeeze S256x2560 squeezes_S1x256x2560_S256x2560 = rslot 5 := rslot_congr (by decide) _ _
@[sl_canon] theorem slotL6 (hh hs) : (ringM.slice (Rect.unit (s := S8x256x2560) ![6, 0, 0] S1x256x2560.size hh) hs).squeeze S256x2560 squeezes_S1x256x2560_S256x2560 = rslot 6 := rslot_congr (by decide) _ _
@[sl_canon] theorem slotL7 (hh hs) : (ringM.slice (Rect.unit (s := S8x256x2560) ![7, 0, 0] S1x256x2560.size hh) hs).squeeze S256x2560 squeezes_S1x256x2560_S256x2560 = rslot 7 := rslot_congr (by decide) _ _
@[sl_canon] theorem rowL20 (hh hs) : dwM.slice (Rect.unit (s := S7168x2560) ![5120, 0] S256x2560.size hh) hs = dwRow 20 := dwRow_congr (by decide) _ _
@[sl_canon] theorem rowL21 (hh hs) : dwM.slice (Rect.unit (s := S7168x2560) ![5376, 0] S256x2560.size hh) hs = dwRow 21 := dwRow_congr (by decide) _ _
@[sl_canon] theorem rowL22 (hh hs) : dwM.slice (Rect.unit (s := S7168x2560) ![5632, 0] S256x2560.size hh) hs = dwRow 22 := dwRow_congr (by decide) _ _
@[sl_canon] theorem rowL23 (hh hs) : dwM.slice (Rect.unit (s := S7168x2560) ![5888, 0] S256x2560.size hh) hs = dwRow 23 := dwRow_congr (by decide) _ _
@[sl_canon] theorem rowL24 (hh hs) : dwM.slice (Rect.unit (s := S7168x2560) ![6144, 0] S256x2560.size hh) hs = dwRow 24 := dwRow_congr (by decide) _ _
@[sl_canon] theorem rowL25 (hh hs) : dwM.slice (Rect.unit (s := S7168x2560) ![6400, 0] S256x2560.size hh) hs = dwRow 25 := dwRow_congr (by decide) _ _
@[sl_canon] theorem rowL26 (hh hs) : dwM.slice (Rect.unit (s := S7168x2560) ![6656, 0] S256x2560.size hh) hs = dwRow 26 := dwRow_congr (by decide) _ _
@[sl_canon] theorem rowL27 (hh hs) : dwM.slice (Rect.unit (s := S7168x2560) ![6912, 0] S256x2560.size hh) hs = dwRow 27 := dwRow_congr (by decide) _ _

end Canon

end Cert.Proof.Wgrad

end
-- ==== Proof.Chunk.lean ====
/-
  What the kernel computes from one chunk: 128 rows by 256 columns of `x` (or of `dy`), column by column one
  power-of-two scale, the clipped and rounded codes, and the chunk decoded again; and from two decoded chunks of `x`
  and the decoded `dy`, one block of 256 rows of the weight gradient. The kernel's printed text says the same
  computation several times over, once per place it is written out; here it has one definition.
-/
module

public import proofs.«01_k».proof.Proof.Names
public import Idealize.ShloMosaic.Lib.Pipeline.Value
public import Idealize.ShloMosaic.Lib.ValueIdx

@[expose] public section

noncomputable section

namespace Cert.Proof.Wgrad

open Cert.KernelIdeal Cert.KernelIdeal.Gen
open Idealize.ShloMosaic
open Idealize.ShloMosaic.TcCoe Idealize.ShloMosaic.Tactic

variable {F : FTy → Type} [FloatOps F]

/-! ## The scale of a column -/

/-- The largest magnitude of each column, times the word of `1 / 448`. -/
def cMax (v : FVec F S128x256 .bf16) : FVec F S1x256 .f32 :=
  mulf (extf .f32 (shapeCast S1x256 (multiReduction .maximumf [0] S256 (absf v) 0xFF80#16 reduces_S128x256_S256 (.inr rfl) rfl)
      shapeCasts_S256_S1x256) bitsLt_bf16_f32)
    (broadcast S1x256 (Scalar.ofBits .f32 0x3B124925#32))

/-- One step of the search for the exponent field: `bit` is added to `e` unless `m` is below the power of two that
    the enlarged field denotes. -/
def probe (m : FVec F S1x256 .f32) (bit : BitVec 32) (e : IVec S1x256 32) : IVec S1x256 32 :=
  select (cmpf .olt m (bitcastToFloat .f32 (shli (addi e (broadcast S1x256 bit)) (broadcast S1x256 23#32)))) e
    (addi e (broadcast S1x256 bit))

/-- The exponent field of `m`, its eight bits found from the top. -/
def field (m : FVec F S1x256 .f32) : IVec S1x256 32 :=
  probe m 1#32 (probe m 2#32 (probe m 4#32 (probe m 8#32 (probe m 16#32 (probe m 32#32 (probe m 64#32 (probe m 128#32 (broadcast S1x256 0#32))))))))

/-- The exponent of the scale: the field less 126, or zero where the field is zero or all ones. -/
def shift (m : FVec F S1x256 .f32) : IVec S1x256 32 :=
  select (ori (cmpi .eq (field m) (broadcast S1x256 0#32)) (cmpi .eq (field m) (broadcast S1x256 255#32)))
    (broadcast S1x256 0#32) (subi (field m) (broadcast S1x256 126#32))

/-- The scale of each column, -/
def cScale (v : FVec F S128x256 .bf16) : FVec F S1x256 .f32 :=
  bitcastToFloat .f32 (shli (addi (broadcast S1x256 127#32) (shift (cMax v))) (broadcast S1x256 23#32))
/-- and its inverse. -/
def cInv (v : FVec F S128x256 .bf16) : FVec F S1x256 .f32 :=
  bitcastToFloat .f32 (shli (subi (broadcast S1x256 127#32) (shift (cMax v))) (broadcast S1x256 23#32))

/-! ## Codes, and the codes decoded -/

/-- The codes of a chunk. -/
def cCodes (v : FVec F S128x256 .bf16) : FVec F S128x256 .fp8e4m3 :=
  truncf .fp8e4m3
    (minimumf (broadcast S128x256 (Scalar.truncf .bf16 bitsLt_bf16_f32 (Scalar.ofBits .f32 0x43E00000#32)))
      (maximumf (broadcast S128x256 (Scalar.truncf .bf16 bitsLt_bf16_f32 (Scalar.ofBits .f32 0xC3E00000#32)))
        (mulf v (broadcastTo S128x256 (truncf .bf16 (cInv v) bitsLt_bf16_f32) broadcasts_S1x256_S128x256))))
    bitsLt_fp8e4m3_bf16

/-- A chunk decoded: codes times scale. -/
def cDeq (v : FVec F S128x256 .bf16) : FVec F S128x256 .bf16 :=
  mulf (extf .bf16 (cCodes v) bitsLt_fp8e4m3_bf16)
    (broadcastTo S128x256 (truncf .bf16 (cScale v) bitsLt_bf16_f32) broadcasts_S1x256_S128x256)

/-- The two decoded chunks of a block of 256 columns, one above the other. -/
def cPair (v w : FVec F S128x256 .bf16) : FVec F S256x256 .bf16 :=
  concatenate S256x256 0 [⟨S128x256, cDeq v⟩, ⟨S128x256, cDeq w⟩] concatenates_S128x256_S128x256_S256x256_d0

/-- One 256 by 256 tile of the weight gradient: a decoded block of `x`, transposed, times a decoded block of `dy`. -/
def cTile (q d : FVec F S256x256 .bf16) : FVec F S256x256 .f32 :=
  matmul dot_S256x256_S256x256_S256x256_1_0_0_1_n_n none (transpose S256x256 [1, 0] q transposes_S256x256_p1_0_S256x256) d
    (constant S256x256 .f32 0x00000000#32)

/-! ## The blocks that a chunk is read from -/

theorem dqCols_inb (j : Fin 10) : ∀ a, (![0, 256 * j.val] : Fin 2 → Nat) a + S256x256.size a ≤ S256x2560.size a := by
  have := j.isLt; intro a; fin_cases a
  · show 0 + 256 ≤ 256; omega
  · show 256 * j.val + 256 ≤ 2560; omega
/-- Columns `256 j .. 256 j + 255` of the decoded `dy`. -/
def dqCols (c : Dev nD) (D : Buf (Elt F) (dqM.view.loc (c : Thread nD τ))) (j : Fin 10) : FVec F S256x256 .bf16 :=
  dqM.view.readAt (Elt F) (Rect.unit (s := S256x2560) ![0, 256 * j.val] S256x256.size (dqCols_inb j)).toLoadRect D

/-- One row block of the weight gradient: ten tiles side by side. -/
def rowTile (c : Dev nD) (q : FVec F S256x256 .bf16) (D : Buf (Elt F) (dqM.view.loc (c : Thread nD τ))) : S256x2560.Idx → Elt F .f32 :=
  fun y => cTile q (dqCols c D ⟨(y 1).val / 256, by have : (y 1).val < 2560 := (y 1).isLt; omega⟩)
    (ValueIdx.ix2 (y 0) ⟨(y 1).val % 256, by show _ % 256 < 256; omega⟩)

/-- The two groups of 128 rows of the columns that trip `k` works on. -/
def xTop (c : Dev nD) (X : Buf (Elt F) (xvM.view.loc (c : Thread nD τ))) (k : Fin k0_t1_loop.trips) : FVec F S128x256 .bf16 :=
  xvM.view.readAt (Elt F) (Rect.unit (s := S256x7168) (k0_off4 k) S128x256.size (k0_off4_inb k)).toLoadRect X
def xBot (c : Dev nD) (X : Buf (Elt F) (xvM.view.loc (c : Thread nD τ))) (k : Fin k0_t1_loop.trips) : FVec F S128x256 .bf16 :=
  xvM.view.readAt (Elt F) (Rect.unit (s := S256x7168) (k0_off6 k) S128x256.size (k0_off6_inb k)).toLoadRect X

/-- The rows of the weight gradient that trip `k` produces. -/
def dwBlock (c : Dev nD) (X : Buf (Elt F) (xvM.view.loc (c : Thread nD τ))) (D : Buf (Elt F) (dqM.view.loc (c : Thread nD τ)))
    (k : Fin k0_t1_loop.trips) : S256x2560.Idx → Elt F .f32 :=
  rowTile c (cPair (xTop c X k) (xBot c X k)) D

/-- The code pieces that trip `k` stores, the newest first. -/
def codePieces (c : Dev nD) (X : Buf (Elt F) (xvM.view.loc (c : Thread nD τ))) (k : Fin k0_t1_loop.trips) :
    List (View.Piece (Elt F) S256x7168 .fp8e4m3) :=
  [⟨Rect.unit (s := S256x7168) (k0_off6 k) S128x256.size (k0_off6_inb k), cCodes (xBot c X k)⟩,
   ⟨Rect.unit (s := S256x7168) (k0_off4 k) S128x256.size (k0_off4_inb k), cCodes (xTop c X k)⟩]
/-- The scale pieces that trip `k` stores. -/
def scalePieces (c : Dev nD) (X : Buf (Elt F) (xvM.view.loc (c : Thread nD τ))) (k : Fin k0_t1_loop.trips) :
    List (View.Piece (Elt F) S2x7168 .f32) :=
  [⟨Rect.unit (s := S2x7168) (k0_off7 k) S1x256.size (k0_off7_inb k), cScale (xBot c X k)⟩,
   ⟨Rect.unit (s := S2x7168) (k0_off5 k) S1x256.size (k0_off5_inb k), cScale (xTop c X k)⟩]

/-- A tile as it is stored in the ring: a leading axis of size one added. -/
def ringTile (q d : FVec F S256x256 .bf16) : FVec F S1x256x256 .f32 := shapeCast S1x256x256 (cTile q d) shapeCasts_S256x256_S1x256x256

/-- The ten tiles that trip `k` stores in the ring, the newest first. -/
def ringPieces (c : Dev nD) (q : FVec F S256x256 .bf16) (D : Buf (Elt F) (dqM.view.loc (c : Thread nD τ))) (k : Fin k0_t1_loop.trips) :
    List (View.Piece (Elt F) S8x256x2560 .f32) :=
  [⟨Rect.unit (s := S8x256x2560) (k0_off17 k) S1x256x256.size (k0_off17_inb k), ringTile q (dqCols c D 9)⟩,
   ⟨Rect.unit (s := S8x256x2560) (k0_off16 k) S1x256x256.size (k0_off16_inb k), ringTile q (dqCols c D 8)⟩,
   ⟨Rect.unit (s := S8x256x2560) (k0_off15 k) S1x256x256.size (k0_off15_inb k), ringTile q (dqCols c D 7)⟩,
   ⟨Rect.unit (s := S8x256x2560) (k0_off14 k) S1x256x256.size (k0_off14_inb k), ringTile q (dqCols c D 6)⟩,
   ⟨Rect.unit (s := S8x256x2560) (k0_off13 k) S1x256x256.size (k0_off13_inb k), ringTile q (dqCols c D 5)⟩,
   ⟨Rect.unit (s := S8x256x2560) (k0_off12 k) S1x256x256.size (k0_off12_inb k), ringTile q (dqCols c D 4)⟩,
   ⟨Rect.unit (s := S8x256x2560) (k0_off11 k) S1x256x256.size (k0_off11_inb k), ringTile q (dqCols c D 3)⟩,
   ⟨Rect.unit (s := S8x256x2560) (k0_off10 k) S1x256x256.size (k0_off10_inb k), ringTile q (dqCols c D 2)⟩,
   ⟨Rect.unit (s := S8x256x2560) (k0_off9 k) S1x256x256.size (k0_off9_inb k), ringTile q (dqCols c D 1)⟩,
   ⟨Rect.unit (s := S8x256x2560) (k0_off8 k) S1x256x256.size (k0_off8_inb k), ringTile q (dqCols c D 0)⟩]

/-! ## The printed payloads are these -/

section Payloads
variable (v w : Vec F S128x256 .bf16)

/-- The exponent search of the second group of the loop's body, as printed: the field, -/
abbrev botField : IVec S1x256 32 := k0_pay16 (F := F) (k0_pay12 w) (k0_pay13 w) (k0_pay14 w) (k0_pay15 w)
/-- and whether it is zero or all ones. -/
abbrev botFlag : IVec S1x256 1 := k0_pay17 (F := F) (k0_pay12 w) (k0_pay13 w) (k0_pay14 w) (k0_pay15 w)

/-- The first group's codes, scale and decoded values as the loop's body prints them. -/
theorem codes_top : k0_pay9 v (k0_pay7 (k0_pay1 v) (k0_pay2 v) (k0_pay3 v) (k0_pay4 v)) = cCodes v := shapeCast_self _ _
theorem scale_top : k0_pay10 (k0_pay6 (k0_pay1 v) (k0_pay2 v) (k0_pay3 v) (k0_pay4 v)) = cScale v := shapeCast_self _ _
theorem deq_top : k0_pay11 v (k0_pay6 (k0_pay1 v) (k0_pay2 v) (k0_pay3 v) (k0_pay4 v)) (k0_pay7 (k0_pay1 v) (k0_pay2 v) (k0_pay3 v) (k0_pay4 v)) = cDeq v := rfl
/-- The second group's. -/
theorem codes_bot : k0_pay21 w (botField w) (botFlag w) = cCodes w := shapeCast_self _ _
theorem scale_bot : k0_pay22 (botField w) (botFlag w) = cScale w := shapeCast_self _ _
/-- The left factor of the loop's products. -/
theorem pair_eq : k0_pay23 (cDeq v) w (botField w) (botFlag w) = transpose S256x256 [1, 0] (cPair v w) transposes_S256x256_p1_0_S256x256 := rfl

variable (c : Dev nD) (X : Buf (Elt F) (xvM.view.loc (c : Thread nD τ))) (D : Buf (Elt F) (dqM.view.loc (c : Thread nD τ)))
  (k : Fin k0_t1_loop.trips)

/-- The pieces a trip stores, with the printed payloads: the codes, -/
theorem codePieces_eq {v w : Vec F S128x256 .bf16} (hv : v = xTop c X k) (hw : w = xBot c X k) : codePieces c X k =
    [⟨Rect.unit (s := S256x7168) (k0_off6 k) S128x256.size (k0_off6_inb k), k0_pay21 w (botField w) (botFlag w)⟩,
     ⟨Rect.unit (s := S256x7168) (k0_off4 k) S128x256.size (k0_off4_inb k), k0_pay9 v (k0_pay7 (k0_pay1 v) (k0_pay2 v) (k0_pay3 v) (k0_pay4 v))⟩] := by
  rw [codes_top, codes_bot, hv, hw]; rfl
/-- the scales, -/
theorem scalePieces_eq {v w : Vec F S128x256 .bf16} (hv : v = xTop c X k) (hw : w = xBot c X k) : scalePieces c X k =
    [⟨Rect.unit (s := S2x7168) (k0_off7 k) S1x256.size (k0_off7_inb k), k0_pay22 (botField w) (botFlag w)⟩,
     ⟨Rect.unit (s := S2x7168) (k0_off5 k) S1x256.size (k0_off5_inb k), k0_pay10 (k0_pay6 (k0_pay1 v) (k0_pay2 v) (k0_pay3 v) (k0_pay4 v))⟩] := by
  rw [scale_top, scale_bot, hv, hw]; rfl
/-- and the ten tiles (`q` the transposed left factor as printed). -/
theorem ringPieces_eq {q : FVec F S256x256 .bf16} (hq : q = k0_pay23 (cDeq v) w (botField w) (botFlag w)) :
    ringPieces c (cPair v w) D k =
      [⟨Rect.unit (s := S8x256x2560) (k0_off17 k) S1x256x256.size (k0_off17_inb k), k0_pay35 q (dqCols c D 9)⟩,
       ⟨Rect.unit (s := S8x256x2560) (k0_off16 k) S1x256x256.size (k0_off16_inb k), k0_pay34 q (dqCols c D 8)⟩,
       ⟨Rect.unit (s := S8x256x2560) (k0_off15 k) S1x256x256.size (k0_off15_inb k), k0_pay33 q (dqCols c D 7)⟩,
       ⟨Rect.unit (s := S8x256x2560) (k0_off14 k) S1x256x256.size (k0_off14_inb k), k0_pay32 q (dqCols c D 6)⟩,
       ⟨Rect.unit (s := S8x256x2560) (k0_off13 k) S1x256x256.size (k0_off13_inb k), k0_pay31 (k0_pay30 q (dqCols c D 5))⟩,
       ⟨Rect.unit (s := S8x256x2560) (k0_off12 k) S1x256x256.size (k0_off12_inb k), k0_pay29 q (dqCols c D 4)⟩,
       ⟨Rect.unit (s := S8x256x2560) (k0_off11 k) S1x256x256.size (k0_off11_inb k), k0_pay28 q (dqCols c D 3)⟩,
       ⟨Rect.unit (s := S8x256x2560) (k0_off10 k) S1x256x256.size (k0_off10_inb k), k0_pay27 q (dqCols c D 2)⟩,
       ⟨Rect.unit (s := S8x256x2560) (k0_off9 k) S1x256x256.size (k0_off9_inb k), k0_pay26 q (dqCols c D 1)⟩,
       ⟨Rect.unit (s := S8x256x2560) (k0_off8 k) S1x256x256.size (k0_off8_inb k), k0_pay25 (k0_pay24 (cDeq v) w (botField w) (botFlag w) (dqCols c D 0))⟩] := by
  rw [pair_eq] at hq; subst hq; rfl
end Payloads

end Cert.Proof.Wgrad

end
-- ==== Proof.RingSlot.lean ====
/-
  What a slot of the ring holds once the ten tiles of a trip are stored in it: the row block of the weight gradient,
  whatever the slot held before.
-/
module

public import proofs.«01_k».proof.Proof.Chunk
public import Idealize.ShloMosaic.Lib.ValueLayout

@[expose] public section

noncomputable section

namespace Cert.Proof.Wgrad

open Cert.KernelIdeal Cert.KernelIdeal.Gen
open Idealize.ShloMosaic
open Idealize.ShloMosaic.TcCoe Idealize.ShloMosaic.Tactic

variable {F : FTy → Type} [FloatOps F]
variable (c : Dev nD)

/-- Where element `y` of slot `s` lies in the ring. -/
theorem rslot_read (s : Fin 8) (f : Buf (Elt F) (ringM.view.loc (c : Thread nD τ))) (y : S256x2560.Idx) :
    (rslot s).view.read (Elt F) f y = ringM.view.read (Elt F) f (ValueIdx.ix3 s (y 0) (y 1)) := by
  have h0 : (Shape.reshapeEquiv (s := S1x256x2560) (s' := S256x2560) squeezes_S1x256x2560_S256x2560.numel_eq y)
      = ValueIdx.ix3 (0 : Fin 1) (y 0) (y 1) := by
    exact (congrArg _ (ValueIdx.eq_ix2 y)).trans (ValueIdx.reshapeEquiv_ix2_1ab _ _ _)
  show ringM.view.read (Elt F) f ((Rect.unit (s := S8x256x2560) (slotOff s) S1x256x2560.size (slotOff_inb s)).emb
    (Shape.reshapeEquiv (s := S1x256x2560) (s' := S256x2560) squeezes_S1x256x2560_S256x2560.numel_eq y)) = _
  rw [h0]
  congr 1
  funext a
  apply Fin.ext
  fin_cases a
  · show s.val + 1 * 0 = s.val; omega
  · show 0 + 1 * (y 0).val = (y 0).val; omega
  · show 0 + 1 * (y 1).val = (y 1).val; omega

/-- Where the `j`-th tile of slot `s` starts. -/
abbrev tileOff (s : Fin 8) (j : Fin 10) : Fin 3 → Nat := ![s.val, 0, 256 * j.val]
theorem tileOff_inb (s : Fin 8) (j : Fin 10) : ∀ a, tileOff s j a + S1x256x256.size a ≤ S8x256x2560.size a := by
  have := s.isLt; have := j.isLt; intro a; fin_cases a
  · show s.val + 1 ≤ 8; omega
  · show 0 + 256 ≤ 256; omega
  · show 256 * j.val + 256 ≤ 2560; omega

theorem piece_congr {off off' : Fin 3 → Nat} (e : off = off') (h : ∀ a, off a + S1x256x256.size a ≤ S8x256x2560.size a)
    (h' : ∀ a, off' a + S1x256x256.size a ≤ S8x256x2560.size a) (w : FVec F S1x256x256 .f32) :
    (⟨Rect.unit (s := S8x256x2560) off S1x256x256.size h, w⟩ : View.Piece (Elt F) S8x256x2560 .f32)
      = ⟨Rect.unit (s := S8x256x2560) off' S1x256x256.size h', w⟩ := by
  subst e; rfl

variable (q : FVec F S256x256 .bf16) (D : Buf (Elt F) (dqM.view.loc (c : Thread nD τ)))

/-- The `j`-th tile as a piece of the ring. -/
def ringPiece (s : Fin 8) (j : Fin 10) : View.Piece (Elt F) S8x256x2560 .f32 :=
  ⟨Rect.unit (s := S8x256x2560) (tileOff s j) S1x256x256.size (tileOff_inb s j), ringTile q (dqCols c D j)⟩

/-- A trip's pieces are the ten tiles, the last stored first. -/
theorem ringPieces_tiles (k : Fin k0_t1_loop.trips) :
    ringPieces c q D k = (List.ofFn (ringPiece c q D (Ring.sl 8 k.val))).reverse := by
  unfold ringPieces
  rw [    piece_congr (off17_eq k) (k0_off17_inb k) (tileOff_inb _ 9) _,
    piece_congr (off16_eq k) (k0_off16_inb k) (tileOff_inb _ 8) _,
    piece_congr (off15_eq k) (k0_off15_inb k) (tileOff_inb _ 7) _,
    piece_congr (off14_eq k) (k0_off14_inb k) (tileOff_inb _ 6) _,
    piece_congr (off13_eq k) (k0_off13_inb k) (tileOff_inb _ 5) _,
    piece_congr (off12_eq k) (k0_off12_inb k) (tileOff_inb _ 4) _,
    piece_congr (off11_eq k) (k0_off11_inb k) (tileOff_inb _ 3) _,
    piece_congr (off10_eq k) (k0_off10_inb k) (tileOff_inb _ 2) _,
    piece_congr (off9_eq k) (k0_off9_inb k) (tileOff_inb _ 1) _,
    piece_congr (off8_eq k) (k0_off8_inb k) (tileOff_inb _ 0) _]
  rfl

/-- A tile's element is the row block's at the place it is stored. -/
theorem ringPiece_apply (s : Fin 8) (j : Fin 10) (x : (ringPiece c q D s j).1.shape.Idx) :
    (ringPiece c q D s j).2 x
      = (fun y : S8x256x2560.Idx => rowTile c q D (ValueIdx.ix2 (y 1) (y 2))) ((ringPiece c q D s j).1.emb x) := by
  have h2 : (x 2).val < 256 := (x 2).isLt
  have e1 : (((ringPiece c q D s j).1.emb x) 1).val = (x 1).val := by show 0 + 1 * (x 1).val = _; omega
  have e2 : (((ringPiece c q D s j).1.emb x) 2).val = 256 * j.val + (x 2).val := by show 256 * j.val + 1 * (x 2).val = _; omega
  show shapeCast S1x256x256 (cTile q (dqCols c D j)) shapeCasts_S256x256_S1x256x256 x = rowTile c q D _
  rw [show shapeCast S1x256x256 (cTile q (dqCols c D j)) shapeCasts_S256x256_S1x256x256 x
    = cTile q (dqCols c D j) (fun a => x a.succ) from shapeCast_addUnit_apply _ _ _ _]
  unfold rowTile
  have ej : (⟨((ValueIdx.ix2 (((ringPiece c q D s j).1.emb x) 1) (((ringPiece c q D s j).1.emb x) 2) : S256x2560.Idx) 1).val / 256, by
      have := (((ringPiece c q D s j).1.emb x) 2).isLt; show _ / 256 < 10; have : (((ringPiece c q D s j).1.emb x) 2).val < 2560 := this
      show (((ringPiece c q D s j).1.emb x) 2).val / 256 < 10; omega⟩ : Fin 10) = j := Fin.ext (by
    show (((ringPiece c q D s j).1.emb x) 2).val / 256 = j.val; omega)
  rw [ej]
  congr 1
  funext a
  apply Fin.ext
  fin_cases a
  · show (x 1).val = (((ringPiece c q D s j).1.emb x) 1).val; omega
  · show (x 2).val = (((ringPiece c q D s j).1.emb x) 2).val % 256; omega

/-- After the ten stores the slot holds the row block. -/
theorem slot_holds (k : Fin k0_t1_loop.trips) (f : Buf (Elt F) (ringM.view.loc (c : Thread nD τ))) :
    (rslot (Ring.sl 8 k.val)).view.read (Elt F) (ringM.view.writes (Elt F) f (ringPieces c q D k)) = rowTile c q D := by
  funext y
  rw [rslot_read c, ringPieces_tiles]
  have hy : (y 1).val < 2560 := (y 1).isLt
  have hy0 : (y 0).val < 256 := (y 0).isLt
  refine (View.read_writes_apply_of_pieces _ _ (fun y : S8x256x2560.Idx => rowTile c q D (ValueIdx.ix2 (y 1) (y 2))) _ ?_ _ ?_).trans ?_
  · intro p hp x
    rw [List.mem_reverse, List.mem_ofFn] at hp
    obtain ⟨j, rfl⟩ := hp
    exact ringPiece_apply c q D _ j x
  · refine ⟨ringPiece c q D (Ring.sl 8 k.val) ⟨(y 1).val / 256, by omega⟩, by rw [List.mem_reverse, List.mem_ofFn]; exact ⟨_, rfl⟩, ?_⟩
    unfold ringPiece
    rw [Rect.mem_set_unit]
    intro a; fin_cases a
    · show (Ring.sl 8 k.val).val ≤ (Ring.sl 8 k.val).val ∧ (Ring.sl 8 k.val).val < (Ring.sl 8 k.val).val + 1; omega
    · show 0 ≤ (y 0).val ∧ (y 0).val < 0 + 256; omega
    · show 256 * ((y 1).val / 256) ≤ (y 1).val ∧ (y 1).val < 256 * ((y 1).val / 256) + 256; omega
  · show rowTile c q D (ValueIdx.ix2 (y 0) (y 1)) = rowTile c q D y
    exact congrArg (rowTile c q D) (ValueIdx.eq_ix2 y).symm

end Cert.Proof.Wgrad

end
-- ==== Proof.Trip.lean ====
/-
  One trip of the kernel's loop: block `k` of 256 columns of `x` is quantised and decoded, its product with the decoded
  `dy` fills slot `k % 8` of the ring, and the slot is sent to its rows of the weight gradient. From the eighth trip
  on the slot is first waited for: the block sent from it eight trips before is then in place.
-/
module

public import proofs.«01_k».proof.Proof.Chunk
public import proofs.«01_k».proof.Proof.RingSlot

@[expose] public section

noncomputable section

namespace Cert.Proof.Wgrad

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's, beside the counters the kernel's own transfers ride on -/

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

section Pieces
variable (c : Dev nD)

/-- A buffer's elements held at contents `f`. -/
abbrev bufP {sp} {s : Shape} {e : EltTy} (M : Memref sig .tc sp s e) (f : Buf (Elt F) (M.view.loc (c : Thread nD τ))) : sProp 𝕄 :=
  M.view.loc (c : Thread nD τ) ↦[M.view.set]{fullShare} f

abbrev cellP (s : Fin 8) : sProp 𝕄 := semVal ((c : Thread nD τ), SemLoc.dma (csm s).sem) 0
abbrev slotP (s : Fin 8) (f : Buf (Elt F) ((rslot s).view.loc (c : Thread nD τ))) : sProp 𝕄 := bufP c (rslot s) f
abbrev rowP (b : Fin 28) (g : Buf (Elt F) ((dwRow b).view.loc (c : Thread nD τ))) : sProp 𝕄 := bufP c (dwRow b) g

/-- Slot `s` in flight to rows `b`: the rows end at `g`, the slot keeps `f`. -/
abbrev flightP (s : Fin 8) (b : Fin 28) (f : Buf (Elt F) ((rslot s).view.loc (c : Thread nD τ))) (g : Buf (Elt F) ((dwRow b).view.loc (c : Thread nD τ))) : sProp 𝕄 :=
  Transfers.Flight countersEmb (c : Thread nD τ) (SemLoc.dma (csm s).sem) () 81920 iprop(rowP c b g ∗ slotP c s f)

end Pieces

section Trip
variable (c : Dev nD) (X : Buf (Elt F) (xvM.view.loc (c : Thread nD τ))) (D : Buf (Elt F) (dqM.view.loc (c : Thread nD τ)))

/-- The trip's region on the kernel's own buffers. -/
abbrev tripG (v2004 : FVec F S128x256 .bf16) (v2082 : FVec F S1x256 .f32) (v2097 : FVec F S128x256 .fp8e4m3) (v2100 : FVec F S128x256 .fp8e4m3)
    (k : Fin k0_t1_loop.trips) : Prog (TpuEff nD τ sig (Elt F) Λ₀ .tc) Unit :=
  k0_t1_body (F := F) xM (Memref.isWhole_whole _) dyM (Memref.isWhole_whole _) dwM (Memref.isWhole_whole _) xcM (Memref.isWhole_whole _) xsM (Memref.isWhole_whole _) dycM (Memref.isWhole_whole _) dysM (Memref.isWhole_whole _) xvM (Memref.isWhole_whole _) dyvM (Memref.isWhole_whole _) dqM (Memref.isWhole_whole _) xcvM (Memref.isWhole_whole _) xsvM (Memref.isWhole_whole _) dycvM (Memref.isWhole_whole _) dysvM (Memref.isWhole_whole _) ringM (Memref.isWhole_whole _) cc0_scratch8 cc0_scratch9 cc0_scratch10 cc0_scratch11 v2004 v2082 v2097 v2100 k ()

/-- What a trip reads and does not change, beside its staging buffers: before (`fc`, `fs`) -/
abbrev staged (fc : Buf (Elt F) (xcvM.view.loc (c : Thread nD τ))) (fs : Buf (Elt F) (xsvM.view.loc (c : Thread nD τ))) : sProp 𝕄 :=
  iprop(bufP c xvM X ∗ bufP c dqM D ∗ bufP c xcvM fc ∗ bufP c xsvM fs ∗ ∃ W, owes (c : Thread nD τ) 0 W)

/-- Rows `b` on their way from slot `b % 8`, due to hold block `b`. -/
def sent (k : Fin k0_t1_loop.trips) : sProp 𝕄 :=
  iprop(∃ f g, ⌜(dwRow (Ring.bk 28 k.val)).view.read (Elt F) g = dwBlock c X D k⌝ ∗ flightP c (Ring.sl 8 k.val) (Ring.bk 28 k.val) f g)

/-- Block `k` in place: its rows hold it. -/
def home (k : Fin k0_t1_loop.trips) : sProp 𝕄 :=
  iprop(∃ g, ⌜(dwRow (Ring.bk 28 k.val)).view.read (Elt F) g = dwBlock c X D k⌝ ∗ rowP c (Ring.bk 28 k.val) g)

variable (v2004 : FVec F S128x256 .bf16) (v2082 : FVec F S1x256 .f32) (v2097 : FVec F S128x256 .fp8e4m3) (v2100 : FVec F S128x256 .fp8e4m3)
  (k : Fin k0_t1_loop.trips) (fc : Buf (Elt F) (xcvM.view.loc (c : Thread nD τ))) (fs : Buf (Elt F) (xsvM.view.loc (c : Thread nD τ)))

/-- What a trip hands back: the codes and scales of its columns staged, its rows on their way. -/
abbrev tripPost : sProp 𝕄 :=
  iprop(staged c X D (xcvM.view.writes (Elt F) fc (codePieces c X k)) (xsvM.view.writes (Elt F) fs (scalePieces c X k)) ∗ sent c X D k)

set_option backward.proofsInPublic true in
/-- One of the first eight trips: its slot has not been used. -/
theorem trip_first (hk : k.val < 8) :
    iprop(staged c X D fc fs ∗ (∃ f, slotP c (Ring.sl 8 k.val) f) ∗ cellP c (Ring.sl 8 k.val) ∗ (∃ g, rowP c (Ring.bk 28 k.val) g))
      ⊢ wp frame (wpE (defs₀ (F := F)) 𝒱₀ (c : Thread nD τ) none) Set.univ (tripG v2004 v2082 v2097 v2100 k)
          (fun _ => tripPost c X D k fc fs) := by
  have hc : ¬ k0_cond1 k = 1#1 := by rw [cond_iff]; omega
  iintro ⟨⟨HX, HD, Hxc, Hxs, ⟨%W, HW⟩⟩, ⟨%f, Hs⟩, Hc, ⟨%g, Hr⟩⟩
  dsimp only [tripG]
  sl_unfold [k0_t1_body]
  sl_exec
  sl_step
  isplitl [HX HD Hxc Hxs HW]
  · isplitl [HX]; · iexact HX
    isplitl [HD]; · iexact HD
    isplitl [Hxc]
    · rw [codePieces_eq c X k rfl rfl]; iexact Hxc
    isplitl [Hxs]
    · rw [scalePieces_eq c X k rfl rfl]; iexact Hxs
    iexists _; iexact HW
  · unfold sent
    iexists _, _
    isplitr
    on_goal 2 => iexact Hc
    ipureintro
    rw [View.read_writes_whole]
    have h := slot_holds c (cPair (xTop c X k) (xBot c X k)) D k f
    rw [ringPieces_eq (xTop c X k) (xBot c X k) c D k rfl, ← deq_top] at h
    exact h

set_option backward.proofsInPublic true in
/-- A later trip: its slot is waited for, and the block sent from it eight trips before is in place. -/
theorem trip_later (k' : Fin k0_t1_loop.trips) (hk : k.val = k'.val + 8) :
    iprop(staged c X D fc fs ∗ sent c X D k' ∗ (∃ g, rowP c (Ring.bk 28 k.val) g))
      ⊢ wp frame (wpE (defs₀ (F := F)) 𝒱₀ (c : Thread nD τ) none) Set.univ (tripG v2004 v2082 v2097 v2100 k)
          (fun _ => iprop(tripPost c X D k fc fs ∗ home c X D k')) := by
  have h8 : 8 ≤ k.val := by omega
  have hc : k0_cond1 k = 1#1 := (cond_iff k).2 h8
  have e : k'.val = k.val - 8 := by omega
  have es : Ring.sl 8 (k.val - 8) = Ring.sl 8 k.val := by
    rw [show k.val = (k.val - 8) + 8 by omega, Ring.sl_add]; simp
  unfold sent home
  rw [e, es]
  iintro ⟨⟨HX, HD, Hxc, Hxs, ⟨%W, HW⟩⟩, ⟨%f, %g', %hg, Hc⟩, ⟨%g, Hr⟩⟩
  dsimp only [tripG]
  sl_unfold [k0_t1_body]
  sl_exec
  sl_step
  isplitr [Hc_dst]
  · isplitl [HX HD Hxc Hxs HW]
    · isplitl [HX]; · iexact HX
      isplitl [HD]; · iexact HD
      isplitl [Hxc]
      · rw [codePieces_eq c X k rfl rfl]; iexact Hxc
      isplitl [Hxs]
      · rw [scalePieces_eq c X k rfl rfl]; iexact Hxs
      iexists _; iexact HW
    · unfold sent
      iexists _, _
      isplitr
      on_goal 2 => iexact Hc
      ipureintro
      rw [View.read_writes_whole]
      have h := slot_holds c (cPair (xTop c X k) (xBot c X k)) D k f
      rw [ringPieces_eq (xTop c X k) (xBot c X k) c D k rfl, ← deq_top] at h
      exact h
  · iexists g'; isplitr; · ipureintro; exact hg
    iexact Hc_dst

end Trip

end Cert.Proof.Wgrad

end
-- ==== Proof.Loop.lean ====
/-
  The loop. Before trip `k` the blocks from `k` on have their rows untouched, the eight before `k` are on their way
  from the ring, and the earlier ones are in place; a slot of the ring is free until the trip that first uses it.
-/
module

public import proofs.«01_k».proof.Proof.Trip

@[expose] public section

noncomputable section

namespace Cert.Proof.Wgrad

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- One element of a separating conjunction taken out. -/
theorem bigSep_pick {n : ℕ} (Φ : Fin n → sProp 𝕄) (i : Fin n) (S : Finset (Fin n)) (h : i ∈ S) :
    bigSep S Φ = iprop(Φ i ∗ bigSep (S.erase i) Φ) := by
  conv_lhs => rw [← Finset.insert_erase h, bigSep_insert (Finset.notMem_erase i S)]
  rfl

section Loop
variable (c : Dev nD) (X : Buf (Elt F) (xvM.view.loc (c : Thread nD τ))) (D : Buf (Elt F) (dqM.view.loc (c : Thread nD τ)))

/-- Where block `b` is before trip `k`. -/
def blockSt (k : ℕ) (b : Fin k0_t1_loop.trips) : sProp 𝕄 :=
  if k ≤ b.val then iprop(∃ g, rowP c (Ring.bk 28 b.val) g) else if k ≤ b.val + 8 then sent c X D b else home c X D b

/-- A slot not yet used before trip `k`. -/
def slotSt (k : ℕ) (s : Fin 8) : sProp 𝕄 :=
  if k ≤ s.val then iprop((∃ f, slotP c s f) ∗ cellP c s) else iprop(emp)

/-- The staging buffers before trip `k`: the pieces of the trips before it stored one on another. -/
def accC (fc : Buf (Elt F) (xcvM.view.loc (c : Thread nD τ))) : ℕ → Buf (Elt F) (xcvM.view.loc (c : Thread nD τ))
  | 0 => fc
  | k + 1 => if h : k < k0_t1_loop.trips then xcvM.view.writes (Elt F) (accC fc k) (codePieces c X ⟨k, h⟩) else accC fc k
def accS (fs : Buf (Elt F) (xsvM.view.loc (c : Thread nD τ))) : ℕ → Buf (Elt F) (xsvM.view.loc (c : Thread nD τ))
  | 0 => fs
  | k + 1 => if h : k < k0_t1_loop.trips then xsvM.view.writes (Elt F) (accS fs k) (scalePieces c X ⟨k, h⟩) else accS fs k

theorem accC_succ (fc : Buf (Elt F) (xcvM.view.loc (c : Thread nD τ))) (k : Fin k0_t1_loop.trips) :
    accC c X fc (k.val + 1) = xcvM.view.writes (Elt F) (accC c X fc k.val) (codePieces c X k) := by rw [accC, dif_pos k.isLt]
theorem accS_succ (fs : Buf (Elt F) (xsvM.view.loc (c : Thread nD τ))) (k : Fin k0_t1_loop.trips) :
    accS c X fs (k.val + 1) = xsvM.view.writes (Elt F) (accS c X fs k.val) (scalePieces c X k) := by rw [accS, dif_pos k.isLt]

/-- What the loop holds before trip `k`. -/
def invAt (fc : Buf (Elt F) (xcvM.view.loc (c : Thread nD τ))) (fs : Buf (Elt F) (xsvM.view.loc (c : Thread nD τ))) (k : ℕ) : sProp 𝕄 :=
  iprop(staged c X D (accC c X fc k) (accS c X fs k) ∗ bigSep Finset.univ (blockSt c X D k) ∗ bigSep Finset.univ (slotSt c k))

/-- The blocks that a trip does not touch. -/
theorem blockSt_same (k : ℕ) (b : Fin k0_t1_loop.trips) (h : b.val ≠ k) (h' : b.val + 8 ≠ k) : blockSt c X D (k + 1) b = blockSt c X D k b := by
  unfold blockSt
  by_cases h1 : k ≤ b.val
  · rw [if_pos h1, if_pos (show k + 1 ≤ b.val by omega)]
  · rw [if_neg h1, if_neg (show ¬ k + 1 ≤ b.val by omega)]
    by_cases h2 : k ≤ b.val + 8
    · rw [if_pos h2, if_pos (show k + 1 ≤ b.val + 8 by omega)]
    · rw [if_neg h2, if_neg (show ¬ k + 1 ≤ b.val + 8 by omega)]
theorem slotSt_same (k : ℕ) (s : Fin 8) (h : s.val ≠ k) : (slotSt c (k + 1) s : sProp 𝕄) = slotSt c k s := by
  unfold slotSt
  by_cases h1 : k ≤ s.val
  · rw [if_pos h1, if_pos (show k + 1 ≤ s.val by omega)]
  · rw [if_neg h1, if_neg (show ¬ k + 1 ≤ s.val by omega)]
theorem blockSt_here (k : Fin k0_t1_loop.trips) : blockSt c X D k.val k = iprop(∃ g, rowP c (Ring.bk 28 k.val) g) := if_pos (Nat.le_refl _)
theorem blockSt_sent (k b : ℕ) (hb : b < k0_t1_loop.trips) (h : ¬ k ≤ b) (h' : k ≤ b + 8) : blockSt c X D k ⟨b, hb⟩ = sent c X D ⟨b, hb⟩ := by
  unfold blockSt; rw [if_neg h, if_pos h']
theorem blockSt_home (k b : ℕ) (hb : b < k0_t1_loop.trips) (h : ¬ k ≤ b + 8) : blockSt c X D k ⟨b, hb⟩ = home c X D ⟨b, hb⟩ := by
  unfold blockSt; rw [if_neg (show ¬ k ≤ b by omega), if_neg h]

variable (v2004 : FVec F S128x256 .bf16) (v2082 : FVec F S1x256 .f32) (v2097 : FVec F S128x256 .fp8e4m3) (v2100 : FVec F S128x256 .fp8e4m3)
  (fc : Buf (Elt F) (xcvM.view.loc (c : Thread nD τ))) (fs : Buf (Elt F) (xsvM.view.loc (c : Thread nD τ)))

/-- A trip takes what the loop holds before it to what it holds after it. -/
theorem trip_inv (k : Fin k0_t1_loop.trips) :
    invAt c X D fc fs k.val
      ⊢ wp frame (wpE (defs₀ (F := F)) 𝒱₀ (c : Thread nD τ) none) Set.univ (tripG v2004 v2082 v2097 v2100 k)
          (fun _ => invAt c X D fc fs (k.val + 1)) := by
  unfold invAt
  rw [accC_succ, accS_succ]
  by_cases hk : k.val < 8
  · have hs : (Ring.sl 8 k.val).val = k.val := by simp [Ring.sl, Fin.ofNat]; omega
    rw [bigSep_pick (blockSt c X D k.val) k _ (Finset.mem_univ _), bigSep_pick (blockSt c X D (k.val + 1)) k _ (Finset.mem_univ _),
      bigSep_pick (slotSt c k.val) (Ring.sl 8 k.val) _ (Finset.mem_univ _), bigSep_pick (slotSt c (k.val + 1)) (Ring.sl 8 k.val) _ (Finset.mem_univ _)]
    rw [bigSep_congr (s := Finset.univ.erase k) (Ψ := blockSt c X D k.val) (Φ := blockSt c X D (k.val + 1)) (fun b hb => blockSt_same c X D k.val b
        (fun e => (Finset.mem_erase.1 hb).1 (Fin.ext e)) (by omega)),
      bigSep_congr (s := Finset.univ.erase (Ring.sl 8 k.val)) (Ψ := slotSt c k.val) (Φ := slotSt c (k.val + 1)) (fun s hb => slotSt_same c k.val s
        (fun e => (Finset.mem_erase.1 hb).1 (Fin.ext (e.trans hs.symm)))),
      blockSt_here, blockSt_sent c X D (k.val + 1) k.val k.isLt (by omega) (by omega),
      show (slotSt c k.val (Ring.sl 8 k.val) : sProp 𝕄) = iprop((∃ f, slotP c (Ring.sl 8 k.val) f) ∗ cellP c (Ring.sl 8 k.val)) from if_pos (by omega),
      show (slotSt c (k.val + 1) (Ring.sl 8 k.val) : sProp 𝕄) = iprop(emp) from if_neg (by omega)]
    iintro ⟨HS, ⟨Hrow, HB⟩, ⟨⟨Hslot, Hcell⟩, HR⟩⟩
    iapply (wp_wand_r Idealize.ShloMosaic.frame (wpE (defs₀ (F := F)) 𝒱₀ (c : Thread nD τ) none) Set.univ)
    isplitl [HS Hrow Hslot Hcell]
    · iapply (trip_first c X D v2004 v2082 v2097 v2100 k (accC c X fc k.val) (accS c X fs k.val) hk)
      isplitl [HS]; · iexact HS
      isplitl [Hslot]; · iexact Hslot
      isplitl [Hcell]; · iexact Hcell
      iexact Hrow
    · iintro %_ ⟨HS, Hsent⟩
      isplitl [HS]; · iexact HS
      isplitl [Hsent HB]
      · isplitl [Hsent]; · iexact Hsent
        iexact HB
      isplitr; · iempintro
      iexact HR
  · have hk8 : 8 ≤ k.val := by omega
    have hk' : k.val - 8 < k0_t1_loop.trips := by have := k.isLt; omega
    have hmem : (⟨k.val - 8, hk'⟩ : Fin k0_t1_loop.trips) ∈ Finset.univ.erase k := Finset.mem_erase.2 ⟨fun e => by have := congrArg Fin.val e; simp at this; omega, Finset.mem_univ _⟩
    rw [bigSep_pick (blockSt c X D k.val) k _ (Finset.mem_univ _), bigSep_pick (blockSt c X D (k.val + 1)) k _ (Finset.mem_univ _),
      bigSep_pick (blockSt c X D k.val) ⟨k.val - 8, hk'⟩ _ hmem, bigSep_pick (blockSt c X D (k.val + 1)) ⟨k.val - 8, hk'⟩ _ hmem]
    rw [bigSep_congr (s := (Finset.univ.erase k).erase ⟨k.val - 8, hk'⟩) (Ψ := blockSt c X D k.val) (Φ := blockSt c X D (k.val + 1)) (fun b hb => blockSt_same c X D k.val b
        (fun e => (Finset.mem_erase.1 (Finset.mem_erase.1 hb).2).1 (Fin.ext e))
        (fun e => (Finset.mem_erase.1 hb).1 (Fin.ext (by show b.val = k.val - 8; omega)))),
      bigSep_congr (s := Finset.univ) (Ψ := slotSt c k.val) (Φ := slotSt c (k.val + 1)) (fun s _ => slotSt_same c k.val s (by have := s.isLt; omega)),
      blockSt_here, blockSt_sent c X D (k.val + 1) k.val k.isLt (by omega) (by omega),
      blockSt_sent c X D k.val (k.val - 8) hk' (by omega) (by omega), blockSt_home c X D (k.val + 1) (k.val - 8) hk' (by omega)]
    iintro ⟨HS, ⟨Hrow, Hold, HB⟩, HR⟩
    iapply (wp_wand_r Idealize.ShloMosaic.frame (wpE (defs₀ (F := F)) 𝒱₀ (c : Thread nD τ) none) Set.univ)
    isplitl [HS Hrow Hold]
    · iapply (trip_later c X D v2004 v2082 v2097 v2100 k (accC c X fc k.val) (accS c X fs k.val) ⟨k.val - 8, hk'⟩ (by show k.val = k.val - 8 + 8; omega))
      isplitl [HS]; · iexact HS
      isplitl [Hold]; · iexact Hold
      iexact Hrow
    · iintro %_ ⟨⟨HS, Hsent⟩, Hhome⟩
      isplitl [HS]; · iexact HS
      isplitr [HR]
      · isplitl [Hsent]; · iexact Hsent
        isplitl [Hhome]; · iexact Hhome
        iexact HB
      iexact HR

set_option warn.classDefReducibility false in
/-- The loop's invariant. -/
@[sl_loop] def loopInv :
    LoopInvTy_k0_t1 (F := F) Unit ℕ (UU nD τ) ℕ 𝒱₀ c none Set.univ xM (Memref.isWhole_whole _) dyM (Memref.isWhole_whole _) dwM (Memref.isWhole_whole _) xcM (Memref.isWhole_whole _) xsM (Memref.isWhole_whole _) dycM (Memref.isWhole_whole _) dysM (Memref.isWhole_whole _) xvM (Memref.isWhole_whole _) dyvM (Memref.isWhole_whole _) dqM (Memref.isWhole_whole _) xcvM (Memref.isWhole_whole _) xsvM (Memref.isWhole_whole _) dycvM (Memref.isWhole_whole _) dysvM (Memref.isWhole_whole _) ringM (Memref.isWhole_whole _) cc0_scratch8 cc0_scratch9 cc0_scratch10 cc0_scratch11 v2004 v2082 v2097 v2100 where
  inv k _ := invAt c X D fc fs k
  step k _ := trip_inv c X D v2004 v2082 v2097 v2100 fc fs k

end Loop

end Cert.Proof.Wgrad

end
-- ==== Proof.Dy.lean ====
/-
  What the kernel's first part leaves of `dy`: the pieces stored in the staging buffers of its codes and scales, and in
  the buffer of its decoded values.
-/
module

public import proofs.«01_k».proof.Proof.Chunk

@[expose] public section

noncomputable section

namespace Cert.Proof.Wgrad

open Cert.KernelIdeal Cert.KernelIdeal.Gen
open Idealize.ShloMosaic
open Idealize.ShloMosaic.TcCoe Idealize.ShloMosaic.Tactic

variable {F : FTy → Type} [FloatOps F]
variable (c : Dev nD) (B : Buf (Elt F) (dyM.view.loc (c : Thread nD τ)))

theorem dyRows_inb (g : Fin 2) (j : Fin 10) : ∀ a, (![128 * g.val, 256 * j.val] : Fin 2 → Nat) a + S128x256.size a ≤ S256x2560.size a := by
  have := j.isLt; have := g.isLt; intro a; fin_cases a
  · show 128 * g.val + 128 ≤ 256; omega
  · show 256 * j.val + 256 ≤ 2560; omega
/-- The rectangle of group `g` of rows and block `j` of columns. -/
abbrev dyRect (g : Fin 2) (j : Fin 10) : Rect S256x2560 :=
  Rect.unit (s := S256x2560) ![128 * g.val, 256 * j.val] S128x256.size (dyRows_inb g j)
/-- That chunk of `dy`, read from its copy. -/
def dyChunk (g : Fin 2) (j : Fin 10) : FVec F S128x256 .bf16 :=
  dyvM.view.readCov (Val := Elt F) [⟨Rect.whole S256x2560, ReadAs.same.apply (dyM.view.read (Elt F) B)⟩] (dyRect g j).toLoadRect

theorem dysRect_inb (g : Fin 2) (j : Fin 10) : ∀ a, (![g.val, 256 * j.val] : Fin 2 → Nat) a + S1x256.size a ≤ S2x2560.size a := by
  have := j.isLt; have := g.isLt; intro a; fin_cases a
  · show g.val + 1 ≤ 2; omega
  · show 256 * j.val + 256 ≤ 2560; omega
abbrev dysRect (g : Fin 2) (j : Fin 10) : Rect S2x2560 :=
  Rect.unit (s := S2x2560) ![g.val, 256 * j.val] S1x256.size (dysRect_inb g j)

/-- The pieces stored, the newest first (each through the store's cast between equal shapes): decoded values, a block of columns at a time, -/
def dqPieces : List (View.Piece (Elt F) S256x2560 .bf16) :=
  (List.ofFn fun j : Fin 10 => (⟨Rect.unit (s := S256x2560) ![0, 256 * j.val] S256x256.size (dqCols_inb j),
    shapeCast S256x256 (cPair (dyChunk c B 0 j) (dyChunk c B 1 j)) shapeCasts_S256x256_S256x256⟩ : View.Piece (Elt F) S256x2560 .bf16)).reverse
/-- codes, group by group in each block, -/
def dycPieces : List (View.Piece (Elt F) S256x2560 .fp8e4m3) :=
  (List.ofFn fun i : Fin 20 => (⟨dyRect ⟨i.val % 2, by omega⟩ ⟨i.val / 2, by omega⟩,
    shapeCast S128x256 (cCodes (dyChunk c B ⟨i.val % 2, by omega⟩ ⟨i.val / 2, by omega⟩)) shapeCasts_S128x256_S128x256⟩ : View.Piece (Elt F) S256x2560 .fp8e4m3)).reverse
/-- and scales. -/
def dysPieces : List (View.Piece (Elt F) S2x2560 .f32) :=
  (List.ofFn fun i : Fin 20 => (⟨dysRect ⟨i.val % 2, by omega⟩ ⟨i.val / 2, by omega⟩,
    shapeCast S1x256 (cScale (dyChunk c B ⟨i.val % 2, by omega⟩ ⟨i.val / 2, by omega⟩)) shapeCasts_S1x256_S1x256⟩ : View.Piece (Elt F) S2x2560 .f32)).reverse

end Cert.Proof.Wgrad

end
-- ==== Proof.Body.lean ====
/-
  The kernel from its first copy to its last wait: `dy` is quantised chunk by chunk, the loop quantises `x` and sends the
  blocks of the weight gradient, and the last waits leave all five results in place.
-/
module

public import proofs.«01_k».proof.Proof.Loop
public import proofs.«01_k».proof.Proof.Dy
public import Idealize.ShloMosaic.Lib.ViewIndex

@[expose] public section

noncomputable section

namespace Cert.Proof.Wgrad

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## Restating what is held -/

/-- The same contents written as other pieces. -/
theorem restate (c : Dev nD) {sp} {s : Shape} {e : EltTy} (M : Memref sig .tc sp s e) (f : Buf (Elt F) (M.view.loc (c : Thread nD τ)))
    {L : List (View.Piece (Elt F) s e)} (L' : List (View.Piece (Elt F) s e)) (h : L = L') :
    (bufP c M (M.view.writes (Elt F) f L) : sProp 𝕄) ⊢ bufP c M (M.view.writes (Elt F) f L') := by subst h; exact .rfl

/-- Contents that read the same are held the same. -/
theorem held_congr (c : Dev nD) {sp} {s : Shape} {e : EltTy} (M : Memref sig .tc sp s e) (f g : Buf (Elt F) (M.view.loc (c : Thread nD τ)))
    (h : M.view.read (Elt F) f = M.view.read (Elt F) g) : (bufP c M f : sProp 𝕄) ⊢ bufP c M g := by
  have e : (bufP c M f : sProp 𝕄) = bufP c M g := pointsTo_congr fun i hi => by
    obtain ⟨y, -, rfl⟩ := Finset.mem_map.1 hi
    exact View.eq_of_read_eq (congrFun h y)
  exact e ▸ .rfl

/-- A buffer written whole, and what the copy out of a buffer leaves. -/
abbrev landed (c : Dev nD) {sp} {s : Shape} {e : EltTy} (M : Memref sig .tc sp s e) (g : Buf (Elt F) (M.view.loc (c : Thread nD τ)))
    (v : s.Idx → Elt F e) : Buf (Elt F) (M.view.loc (c : Thread nD τ)) := M.view.writes (Elt F) g [⟨Rect.whole s, ReadAs.same.apply v⟩]

section Body
variable (c : Dev nD) (A : Buf (Elt F) (xM.view.loc (c : Thread nD τ))) (B : Buf (Elt F) (dyM.view.loc (c : Thread nD τ)))

/-- The kernel on its own buffers. -/
abbrev bodyG : Prog (TpuEff nD τ sig (Elt F) Λ₀ .tc) PUnit :=
  cc0_token_group_wgrad (F := F) xM (Memref.isWhole_whole _) dyM (Memref.isWhole_whole _) dwM (Memref.isWhole_whole _) xcM (Memref.isWhole_whole _) xsM (Memref.isWhole_whole _) dycM (Memref.isWhole_whole _) dysM (Memref.isWhole_whole _) xvM (Memref.isWhole_whole _) dyvM (Memref.isWhole_whole _) dqM (Memref.isWhole_whole _) xcvM (Memref.isWhole_whole _) xsvM (Memref.isWhole_whole _) dycvM (Memref.isWhole_whole _) dysvM (Memref.isWhole_whole _) ringM (Memref.isWhole_whole _) cc0_scratch8 cc0_scratch9 cc0_scratch10 cc0_scratch11

abbrev inCell (i : Fin 3) : sProp 𝕄 := semVal ((c : Thread nD τ), SemLoc.dma (ism i).sem) 0
abbrev scCell (i : Fin 2) : sProp 𝕄 := semVal ((c : Thread nD τ), SemLoc.dma (ssm i).sem) 0
def outCell : sProp 𝕄 := semVal ((c : Thread nD τ), SemLoc.dma cc0_scratch10.sem) 0

/-- The copy of `x`, both parts in. -/
def xBuf : Buf (Elt F) (xvM.view.loc (c : Thread nD τ)) := landed c xvM xvM.view.junk (xM.view.read (Elt F) A)

abbrev rectL : Rect S256x7168 := Rect.unit (s := S256x7168) ![0, 0] S256x256.size inb_S256x7168_S256x256_0_0
abbrev rectR : Rect S256x7168 := Rect.unit (s := S256x7168) ![0, 256] S256x6912.size inb_S256x7168_S256x6912_0_256

theorem mem_rectL (y : S256x7168.Idx) : y ∈ rectL.set ↔ (y 1).val < 256 := by
  have h0 : (y 0).val < 256 := (y 0).isLt
  rw [Rect.mem_set_unit]
  constructor
  · intro h; have : 0 ≤ (y 1).val ∧ (y 1).val < 0 + 256 := h 1; omega
  · intro h a; fin_cases a
    · show 0 ≤ (y 0).val ∧ (y 0).val < 0 + 256; omega
    · show 0 ≤ (y 1).val ∧ (y 1).val < 0 + 256; omega
theorem mem_rectR (y : S256x7168.Idx) : y ∈ rectR.set ↔ ¬ (y 1).val < 256 := by
  have h0 : (y 0).val < 256 := (y 0).isLt
  have h1 : (y 1).val < 7168 := (y 1).isLt
  rw [Rect.mem_set_unit]
  constructor
  · intro h; have : 256 ≤ (y 1).val ∧ (y 1).val < 256 + 6912 := h 1; omega
  · intro h a; fin_cases a
    · show 0 ≤ (y 0).val ∧ (y 0).val < 0 + 256; omega
    · show 256 ≤ (y 1).val ∧ (y 1).val < 256 + 6912; omega
theorem rectLR_disjoint : Disjoint rectL.set rectR.set :=
  Finset.disjoint_left.2 fun y h h' => (mem_rectR y).1 h' ((mem_rectL y).1 h)
theorem rectLR_cover : rectL.set ∪ rectR.set = Finset.univ :=
  Finset.eq_univ_iff_forall.2 fun y => Finset.mem_union.2 (by rw [mem_rectL, mem_rectR]; exact em _)

/-- A buffer of `x`'s shape is its two parts. -/
theorem colSplit_xv (f : Buf (Elt F) (xvM.view.loc (c : Thread nD τ))) :
    (bufP c xvM f : sProp 𝕄) ⊣⊢ iprop(bufP c (colL xvM) f ∗ bufP c (colR xvM) f) := by
  have hL : (colL xvM).view.set = rectL.set := View.set_slice_whole cc0_scratch0 rectL
  have hR : (colR xvM).view.set = rectR.set := View.set_slice_whole cc0_scratch0 rectR
  have hw : xvM.view.set = rectL.set ∪ rectR.set := (View.set_whole cc0_scratch0).trans rectLR_cover.symm
  have h := pointsTo_union (Ix := Unit) (Name := ℕ) (U := UU nD τ) (Lvl := ℕ) (ℓ := xvM.view.loc (c : Thread nD τ)) (q := fullShare) (f := f) rectLR_disjoint
  unfold bufP
  rw [hL, hR, hw]
  exact h
theorem colSplit_x (f : Buf (Elt F) (xM.view.loc (c : Thread nD τ))) :
    (bufP c xM f : sProp 𝕄) ⊣⊢ iprop(bufP c (colL xM) f ∗ bufP c (colR xM) f) := by
  have hL : (colL xM).view.set = rectL.set := View.set_slice_whole main_v0 rectL
  have hR : (colR xM).view.set = rectR.set := View.set_slice_whole main_v0 rectR
  have hw : xM.view.set = rectL.set ∪ rectR.set := (View.set_whole main_v0).trans rectLR_cover.symm
  have h := pointsTo_union (Ix := Unit) (Name := ℕ) (U := UU nD τ) (Lvl := ℕ) (ℓ := xM.view.loc (c : Thread nD τ)) (q := fullShare) (f := f) rectLR_disjoint
  unfold bufP
  rw [hL, hR, hw]
  exact h

theorem xBuf_read : xvM.view.read (Elt F) (xBuf c A) = xM.view.read (Elt F) A := View.read_writes_whole _ _ _

/-- The two parts copied in are the whole copied in. -/
theorem x_join (f0 : Buf (Elt F) ((colL xvM).view.loc (c : Thread nD τ))) (f0' : Buf (Elt F) ((colR xvM).view.loc (c : Thread nD τ))) :
    iprop(bufP c (colL xvM) (landed c (colL xvM) f0 ((colL xM).view.read (Elt F) A)) ∗ bufP c (colR xvM) (landed c (colR xvM) f0' ((colR xM).view.read (Elt F) A)))
      ⊢ (bufP c xvM (xBuf c A) : sProp 𝕄) := by
  refine (BI.sep_mono (held_congr c (colL xvM) _ (xBuf c A) ?_) (held_congr c (colR xvM) _ (xBuf c A) ?_)).trans (colSplit_xv c (xBuf c A)).2
  · rw [View.read_writes_whole]
    funext y; exact (congrFun (xBuf_read c A) (rectL.emb y)).symm
  · rw [View.read_writes_whole]
    funext y; exact (congrFun (xBuf_read c A) (rectR.emb y)).symm

variable (f3 : Buf (Elt F) (xcvM.view.loc (c : Thread nD τ))) (f4 : Buf (Elt F) (xsvM.view.loc (c : Thread nD τ)))
  (f5 : Buf (Elt F) (dycvM.view.loc (c : Thread nD τ))) (f6 : Buf (Elt F) (dysvM.view.loc (c : Thread nD τ)))

/-- The buffers the results are computed in, when they are copied out. -/
abbrev dqBuf : Buf (Elt F) (dqM.view.loc (c : Thread nD τ)) := dqM.view.writes (Elt F) dqM.view.junk (dqPieces c B)
abbrev dycBuf : Buf (Elt F) (dycvM.view.loc (c : Thread nD τ)) := dycvM.view.writes (Elt F) f5 (dycPieces c B)
abbrev dysBuf : Buf (Elt F) (dysvM.view.loc (c : Thread nD τ)) := dysvM.view.writes (Elt F) f6 (dysPieces c B)
abbrev xcBuf : Buf (Elt F) (xcvM.view.loc (c : Thread nD τ)) := accC c (xBuf c A) f3 k0_t1_loop.trips
abbrev xsBuf : Buf (Elt F) (xsvM.view.loc (c : Thread nD τ)) := accS c (xBuf c A) f4 k0_t1_loop.trips

/-- The two copies of codes out, which complete on one semaphore: what each brings. -/
def codesOut (gdyc : Buf (Elt F) (dycM.view.loc (c : Thread nD τ))) (gxc : Buf (Elt F) (xcM.view.loc (c : Thread nD τ))) : Fin 2 → sProp 𝕄
  | 0 => iprop(bufP c dycM (landed c dycM gdyc (dycvM.view.read (Elt F) (dycBuf c B f5))) ∗ bufP c dycvM (dycBuf c B f5))
  | 1 => iprop(bufP c xcM (landed c xcM gxc (xcvM.view.read (Elt F) (xcBuf c A f3))) ∗ bufP c xcvM (xcBuf c A f3))

instance codesOut_storable (gdyc : Buf (Elt F) (dycM.view.loc (c : Thread nD τ))) (gxc : Buf (Elt F) (xcM.view.loc (c : Thread nD τ))) :
    ∀ t, Storable upEmb (codesOut c A B f3 f5 gdyc gxc t)
  | 0 => by unfold codesOut; infer_instance
  | 1 => by unfold codesOut; infer_instance

/-! ## The last eight blocks -/

abbrev tr (b : ℕ) (h : b < 28 := by decide) : Fin k0_t1_loop.trips := ⟨b, Nat.lt_of_lt_of_eq h trips_eq.symm⟩

/-- Rows `b` on their way from slot `s`, due to hold block `k`. -/
def sentAt (X : Buf (Elt F) (xvM.view.loc (c : Thread nD τ))) (D : Buf (Elt F) (dqM.view.loc (c : Thread nD τ))) (s : Fin 8) (b : Fin 28) (k : Fin k0_t1_loop.trips) : sProp 𝕄 :=
  iprop(∃ f g, ⌜(dwRow b).view.read (Elt F) g = dwBlock c X D k⌝ ∗ flightP c s b f g)
/-- Rows `b` in place, holding block `k`. -/
def homeAt (X : Buf (Elt F) (xvM.view.loc (c : Thread nD τ))) (D : Buf (Elt F) (dqM.view.loc (c : Thread nD τ))) (b : Fin 28) (k : Fin k0_t1_loop.trips) : sProp 𝕄 :=
  iprop(∃ g, ⌜(dwRow b).view.read (Elt F) g = dwBlock c X D k⌝ ∗ rowP c b g)

/-- The blocks that are in place when the loop ends. -/
def early : Finset (Fin k0_t1_loop.trips) :=
  (((((((Finset.univ.erase (tr 20)).erase (tr 21)).erase (tr 22)).erase (tr 23)).erase (tr 24)).erase (tr 25)).erase (tr 26)).erase (tr 27)

theorem early_lt (b : Fin k0_t1_loop.trips) (h : b ∈ early) : b.val < 20 := by
  have hb : b.val < 28 := Nat.lt_of_lt_of_eq b.isLt trips_eq
  simp only [early, Finset.mem_erase, Finset.mem_univ, and_true, ne_eq, Fin.ext_iff] at h
  omega

/-- Eight elements taken out of a separating conjunction over the blocks. -/
theorem take8 (Φ : Fin k0_t1_loop.trips → sProp 𝕄) : bigSep Finset.univ Φ
    = iprop(Φ (tr 20) ∗ Φ (tr 21) ∗ Φ (tr 22) ∗ Φ (tr 23) ∗ Φ (tr 24) ∗ Φ (tr 25) ∗ Φ (tr 26) ∗ Φ (tr 27) ∗ bigSep early Φ) := by
  rw [bigSep_pick Φ (tr 20) _ (Finset.mem_univ _), bigSep_pick Φ (tr 21) _ (by simp), bigSep_pick Φ (tr 22) _ (by simp),
    bigSep_pick Φ (tr 23) _ (by simp), bigSep_pick Φ (tr 24) _ (by simp), bigSep_pick Φ (tr 25) _ (by simp),
    bigSep_pick Φ (tr 26) _ (by simp), bigSep_pick Φ (tr 27) _ (by simp)]
  rfl

/-- After the loop: the last eight blocks on their way, the others in place. -/
theorem blocks_end (X : Buf (Elt F) (xvM.view.loc (c : Thread nD τ))) (D : Buf (Elt F) (dqM.view.loc (c : Thread nD τ))) :
    (bigSep Finset.univ (blockSt c X D k0_t1_loop.trips) : sProp 𝕄)
      ⊢ iprop(sentAt c X D 4 20 (tr 20) ∗ sentAt c X D 5 21 (tr 21) ∗ sentAt c X D 6 22 (tr 22) ∗ sentAt c X D 7 23 (tr 23)
        ∗ sentAt c X D 0 24 (tr 24) ∗ sentAt c X D 1 25 (tr 25) ∗ sentAt c X D 2 26 (tr 26) ∗ sentAt c X D 3 27 (tr 27) ∗ bigSep early (home c X D)) := by
  have key : ∀ b, (h : b < 28) → 20 ≤ b → blockSt c X D k0_t1_loop.trips (tr b h) = sent c X D (tr b h) := fun b h hb =>
    blockSt_sent c X D _ b _ (by have := trips_eq; omega) (by have := trips_eq; omega)
  rw [take8, key 20 (by decide) (by decide), key 21 (by decide) (by decide), key 22 (by decide) (by decide), key 23 (by decide) (by decide),
    key 24 (by decide) (by decide), key 25 (by decide) (by decide), key 26 (by decide) (by decide), key 27 (by decide) (by decide),
    bigSep_congr (s := early) (Φ := blockSt c X D k0_t1_loop.trips) (Ψ := home c X D) (fun b hb => blockSt_home c X D _ b.val b.isLt (by
      have := early_lt b hb; have := trips_eq; omega))]
  exact .rfl

/-- All blocks in place. -/
theorem blocks_home (X : Buf (Elt F) (xvM.view.loc (c : Thread nD τ))) (D : Buf (Elt F) (dqM.view.loc (c : Thread nD τ))) :
    iprop(homeAt c X D 20 (tr 20) ∗ homeAt c X D 21 (tr 21) ∗ homeAt c X D 22 (tr 22) ∗ homeAt c X D 23 (tr 23)
        ∗ homeAt c X D 24 (tr 24) ∗ homeAt c X D 25 (tr 25) ∗ homeAt c X D 26 (tr 26) ∗ homeAt c X D 27 (tr 27) ∗ bigSep early (home c X D))
      ⊢ (bigSep Finset.univ (home c X D) : sProp 𝕄) := by
  rw [take8]
  exact .rfl

/-! ## The run -/

/-- What the kernel leaves. -/
def bodyPost (gxc : Buf (Elt F) (xcM.view.loc (c : Thread nD τ))) (gxs : Buf (Elt F) (xsM.view.loc (c : Thread nD τ)))
    (gdyc : Buf (Elt F) (dycM.view.loc (c : Thread nD τ))) (gdys : Buf (Elt F) (dysM.view.loc (c : Thread nD τ))) : sProp 𝕄 :=
  iprop(bufP c (colL xM) A ∗ bufP c (colR xM) A ∗ bufP c dyM B
    ∗ bigSep Finset.univ (home c (xBuf c A) (dqBuf c B))
    ∗ bufP c xcM (landed c xcM gxc (xcvM.view.read (Elt F) (xcBuf c A f3)))
    ∗ bufP c xsM (landed c xsM gxs (xsvM.view.read (Elt F) (xsBuf c A f4)))
    ∗ bufP c dycM (landed c dycM gdyc (dycvM.view.read (Elt F) (dycBuf c B f5)))
    ∗ bufP c dysM (landed c dysM gdys (dysvM.view.read (Elt F) (dysBuf c B f6)))
    ∗ (∃ f, bufP c xvM f) ∗ (∃ f, bufP c dyvM f) ∗ (∃ f, bufP c dqM f) ∗ (∃ f, bufP c xcvM f) ∗ (∃ f, bufP c xsvM f) ∗ (∃ f, bufP c dycvM f) ∗ (∃ f, bufP c dysvM f)
    ∗ ((∃ f, slotP c 0 f) ∗ (∃ f, slotP c 1 f) ∗ (∃ f, slotP c 2 f) ∗ (∃ f, slotP c 3 f) ∗ (∃ f, slotP c 4 f) ∗ (∃ f, slotP c 5 f) ∗ (∃ f, slotP c 6 f) ∗ (∃ f, slotP c 7 f))
    ∗ (cellP c 0 ∗ cellP c 1 ∗ cellP c 2 ∗ cellP c 3 ∗ cellP c 4 ∗ cellP c 5 ∗ cellP c 6 ∗ cellP c 7)
    ∗ inCell c 0 ∗ inCell c 1 ∗ inCell c 2 ∗ outCell c ∗ scCell c 0 ∗ scCell c 1
    ∗ ∃ W, owes (c : Thread nD τ) 0 W)

set_option maxHeartbeats 4000000 in
set_option backward.proofsInPublic true in
theorem bodyRun (gxc gxs gdyc gdys f0 f0' f1 f2 W) :
    iprop(bufP c (colL xM) A ∗ bufP c (colR xM) A ∗ bufP c dyM B ∗ bufP c xcM gxc ∗ bufP c xsM gxs ∗ bufP c dycM gdyc ∗ bufP c dysM gdys
      ∗ bufP c (colL xvM) f0 ∗ bufP c (colR xvM) f0' ∗ bufP c dyvM f1 ∗ bufP c dqM f2 ∗ bufP c xcvM f3 ∗ bufP c xsvM f4 ∗ bufP c dycvM f5 ∗ bufP c dysvM f6
      ∗ inCell c 0 ∗ inCell c 1 ∗ inCell c 2 ∗ outCell c ∗ scCell c 0 ∗ scCell c 1
      ∗ bigSep Finset.univ (blockSt c (xBuf c A) (dqBuf c B) 0) ∗ bigSep Finset.univ (slotSt c 0)
      ∗ owes (c : Thread nD τ) 0 W)
      ⊢ wp frame (wpE (defs₀ (F := F)) 𝒱₀ (c : Thread nD τ) none) Set.univ (bodyG (F := F))
        (fun _ => bodyPost c A B f3 f4 f5 f6 gxc gxs gdyc gdys) := by
  iintro ⟨HA, HAr, HB, Hgxc, Hgxs, Hgdyc, Hgdys, Hxv, Hxvr, Hdyv, Hdq, Hxcv, Hxsv, Hdycv, Hdysv, Hi0, Hi1, Hi2, Hout, Hsc0, Hsc1, Hblocks, Hslots, HW⟩
  dsimp only [bodyG]
  sl_exec
  ihave Hdq := (restate c dqM _ (dqPieces c B) (by rfl)) $$ Hdq
  ihave Hdycv := (restate c dycvM _ (dycPieces c B) (by rfl)) $$ Hdycv
  ihave Hdysv := (restate c dysvM _ (dysPieces c B) (by rfl)) $$ Hdysv
  unfold outCell
  imod (Transfers.mixedBatch_alloc' (Lvl := ℕ) (countersEmb (U := UU nD τ)) (c : Thread nD τ) () ![20480, 57344] (codesOut c A B f3 f5 gdyc gxc)
    (sm := SemLoc.dma cc0_scratch10.sem) (E := Set.univ)) $$ Hout with Hbatch
  sl_exec
  ihave Hx := (x_join c A _ _) $$ [Hxv Hxvr]
  · isplitl [Hxv]; · iexact Hxv
    iexact Hxvr
  ihave Hxcv := (held_congr c xcvM f3 (accC c (xBuf c A) f3 0) rfl) $$ Hxcv
  ihave Hxsv := (held_congr c xsvM f4 (accS c (xBuf c A) f4 0) rfl) $$ Hxsv
  sl_exec
  ihave Hend := (blocks_end c (xBuf c A) (dqBuf c B)) $$ Hblocks
  iclear Hslots
  unfold sentAt
  icases Hend with ⟨⟨%s20, %g20, %h20, F20⟩, ⟨%s21, %g21, %h21, F21⟩, ⟨%s22, %g22, %h22, F22⟩, ⟨%s23, %g23, %h23, F23⟩, ⟨%s24, %g24, %h24, F24⟩, ⟨%s25, %g25, %h25, F25⟩, ⟨%s26, %g26, %h26, F26⟩, ⟨%s27, %g27, %h27, F27⟩, Hhome⟩
  sl_exec
  sl_step
  unfold bodyPost outCell
  isplitl [HA]; · iexact HA
  isplitl [HAr]; · iexact HAr
  isplitl [HB]; · iexact HB
  isplitl [Hhome F20_dst F21_dst F22_dst F23_dst F24_dst F25_dst F26_dst F27_dst]
  · iapply (blocks_home c (xBuf c A) (dqBuf c B))
    unfold homeAt
    isplitl [F20_dst]; · iexists _; isplitr; (· ipureintro; exact h20); iexact F20_dst
    isplitl [F21_dst]; · iexists _; isplitr; (· ipureintro; exact h21); iexact F21_dst
    isplitl [F22_dst]; · iexists _; isplitr; (· ipureintro; exact h22); iexact F22_dst
    isplitl [F23_dst]; · iexists _; isplitr; (· ipureintro; exact h23); iexact F23_dst
    isplitl [F24_dst]; · iexists _; isplitr; (· ipureintro; exact h24); iexact F24_dst
    isplitl [F25_dst]; · iexists _; isplitr; (· ipureintro; exact h25); iexact F25_dst
    isplitl [F26_dst]; · iexists _; isplitr; (· ipureintro; exact h26); iexact F26_dst
    isplitl [F27_dst]; · iexists _; isplitr; (· ipureintro; exact h27); iexact F27_dst
    iexact Hhome
  isplitl [Hbatch_dst1]; · iexact Hbatch_dst1
  isplitl [Hgxs]; · iexact Hgxs
  isplitl [Hbatch_dst0]; · iexact Hbatch_dst0
  isplitl [Hgdys]; · iexact Hgdys
  isplitl [Hx]; · iexists _; iexact Hx
  isplitl [Hdyv]; · iexists _; iexact Hdyv
  isplitl [Hdq]; · iexists _; iexact Hdq
  isplitl [Hbatch_src1]; · iexists _; iexact Hbatch_src1
  isplitl [Hxsv]; · iexists _; iexact Hxsv
  isplitl [Hbatch_src0]; · iexists _; iexact Hbatch_src0
  isplitl [Hdysv]; · iexists _; iexact Hdysv
  isplitl [F24_src F25_src F26_src F27_src F20_src F21_src F22_src F23_src]
  · isplitl [F24_src]; · iexists _; iexact F24_src
    isplitl [F25_src]; · iexists _; iexact F25_src
    isplitl [F26_src]; · iexists _; iexact F26_src
    isplitl [F27_src]; · iexists _; iexact F27_src
    isplitl [F20_src]; · iexists _; iexact F20_src
    isplitl [F21_src]; · iexists _; iexact F21_src
    isplitl [F22_src]; · iexists _; iexact F22_src
    iexists _; iexact F23_src
  isplitl [F24 F25 F26 F27 F20 F21 F22 F23]
  · isplitl [F24]; · iexact F24
    isplitl [F25]; · iexact F25
    isplitl [F26]; · iexact F26
    isplitl [F27]; · iexact F27
    isplitl [F20]; · iexact F20
    isplitl [F21]; · iexact F21
    isplitl [F22]; · iexact F22
    iexact F23
  isplitl [Hi0]; · iexact Hi0
  isplitl [Hi1]; · iexact Hi1
  isplitl [Hi2]; · iexact Hi2
  isplitl [Hbatch]; · iexact Hbatch
  isplitl [Hsc0]; · iexact Hsc0
  isplitl [Hsc1]; · iexact Hsc1
  iexists _; iexact HW

end Body
end Cert.Proof.Wgrad
end
-- ==== Proof.Values.lean ====
/-
  What the five results hold, as functions of the two arguments alone: codes and scales chunk by chunk, and the weight
  gradient tile by tile. The buffers that the kernel fills piece by piece read as these.
-/
module

public import proofs.«01_k».proof.Proof.Body

@[expose] public section

noncomputable section

namespace Cert.Proof.Wgrad

open Cert.KernelIdeal Cert.KernelIdeal.Gen
open Idealize.ShloMosaic
open Idealize.ShloMosaic.TcCoe Idealize.ShloMosaic.Tactic

variable {F : FTy → Type} [FloatOps F]

/-! ## Arrays made of chunks -/

section Tiled
variable {α : Type}

/-- Group `g` of 128 rows and block `k` of 256 columns of `x`, -/
def chunkX (V : S256x7168.Idx → α) (g : Fin 2) (k : Fin 28) : S128x256.Idx → α := fun y =>
  V (ValueIdx.ix2 ⟨128 * g.val + (y 0).val, by have : (y 0).val < 128 := (y 0).isLt; have := g.isLt; omega⟩
    ⟨256 * k.val + (y 1).val, by have : (y 1).val < 256 := (y 1).isLt; have := k.isLt; omega⟩)
/-- and of `dy`. -/
def chunkDy (V : S256x2560.Idx → α) (g : Fin 2) (k : Fin 10) : S128x256.Idx → α := fun y =>
  V (ValueIdx.ix2 ⟨128 * g.val + (y 0).val, by have : (y 0).val < 128 := (y 0).isLt; have := g.isLt; omega⟩
    ⟨256 * k.val + (y 1).val, by have : (y 1).val < 256 := (y 1).isLt; have := k.isLt; omega⟩)

/-- The array whose chunks are `T g k`, -/
def tiledX (T : Fin 2 → Fin 28 → S128x256.Idx → α) : S256x7168.Idx → α := fun y =>
  T ⟨(y 0).val / 128, by have : (y 0).val < 256 := (y 0).isLt; omega⟩ ⟨(y 1).val / 256, by have : (y 1).val < 7168 := (y 1).isLt; omega⟩
    (ValueIdx.ix2 ⟨(y 0).val % 128, by omega⟩ ⟨(y 1).val % 256, by omega⟩)
def tiledDy (T : Fin 2 → Fin 10 → S128x256.Idx → α) : S256x2560.Idx → α := fun y =>
  T ⟨(y 0).val / 128, by have : (y 0).val < 256 := (y 0).isLt; omega⟩ ⟨(y 1).val / 256, by have : (y 1).val < 2560 := (y 1).isLt; omega⟩
    (ValueIdx.ix2 ⟨(y 0).val % 128, by omega⟩ ⟨(y 1).val % 256, by omega⟩)
/-- and the array of two rows whose chunks are `T g k`. -/
def rowsX (T : Fin 2 → Fin 28 → S1x256.Idx → α) : S2x7168.Idx → α := fun y =>
  T (y 0) ⟨(y 1).val / 256, by have : (y 1).val < 7168 := (y 1).isLt; omega⟩ (ValueIdx.ix2 0 ⟨(y 1).val % 256, by omega⟩)
def rowsDy (T : Fin 2 → Fin 10 → S1x256.Idx → α) : S2x2560.Idx → α := fun y =>
  T (y 0) ⟨(y 1).val / 256, by have : (y 1).val < 2560 := (y 1).isLt; omega⟩ (ValueIdx.ix2 0 ⟨(y 1).val % 256, by omega⟩)

/-- Their elements at an index given by chunk and place in it. -/
theorem tiledX_at (T : Fin 2 → Fin 28 → S128x256.Idx → α) (y : S256x7168.Idx) (g : Fin 2) (k : Fin 28) (x : S128x256.Idx)
    (e0 : (y 0).val = 128 * g.val + (x 0).val) (e1 : (y 1).val = 256 * k.val + (x 1).val) : tiledX T y = T g k x := by
  have h0 : (x 0).val < 128 := (x 0).isLt
  have h1 : (x 1).val < 256 := (x 1).isLt
  unfold tiledX
  congr 1
  · exact Fin.ext (show (y 0).val / 128 = g.val by omega)
  · exact Fin.ext (show (y 1).val / 256 = k.val by omega)
  · refine Eq.trans ?_ (ValueIdx.eq_ix2 x).symm
    congr 1
    · exact Fin.ext (show (y 0).val % 128 = (x 0).val by omega)
    · exact Fin.ext (show (y 1).val % 256 = (x 1).val by omega)
theorem tiledDy_at (T : Fin 2 → Fin 10 → S128x256.Idx → α) (y : S256x2560.Idx) (g : Fin 2) (k : Fin 10) (x : S128x256.Idx)
    (e0 : (y 0).val = 128 * g.val + (x 0).val) (e1 : (y 1).val = 256 * k.val + (x 1).val) : tiledDy T y = T g k x := by
  have h0 : (x 0).val < 128 := (x 0).isLt
  have h1 : (x 1).val < 256 := (x 1).isLt
  unfold tiledDy
  congr 1
  · exact Fin.ext (show (y 0).val / 128 = g.val by omega)
  · exact Fin.ext (show (y 1).val / 256 = k.val by omega)
  · refine Eq.trans ?_ (ValueIdx.eq_ix2 x).symm
    congr 1
    · exact Fin.ext (show (y 0).val % 128 = (x 0).val by omega)
    · exact Fin.ext (show (y 1).val % 256 = (x 1).val by omega)
theorem rowsX_at (T : Fin 2 → Fin 28 → S1x256.Idx → α) (y : S2x7168.Idx) (g : Fin 2) (k : Fin 28) (x : S1x256.Idx)
    (e0 : (y 0).val = g.val) (e1 : (y 1).val = 256 * k.val + (x 1).val) : rowsX T y = T g k x := by
  have h0 : (x 0).val < 1 := (x 0).isLt
  have h1 : (x 1).val < 256 := (x 1).isLt
  unfold rowsX
  congr 1
  · exact Fin.ext e0
  · exact Fin.ext (show (y 1).val / 256 = k.val by omega)
  · refine Eq.trans ?_ (ValueIdx.eq_ix2 x).symm
    congr 1
    · exact Fin.ext (show 0 = (x 0).val by omega)
    · exact Fin.ext (show (y 1).val % 256 = (x 1).val by omega)
theorem rowsDy_at (T : Fin 2 → Fin 10 → S1x256.Idx → α) (y : S2x2560.Idx) (g : Fin 2) (k : Fin 10) (x : S1x256.Idx)
    (e0 : (y 0).val = g.val) (e1 : (y 1).val = 256 * k.val + (x 1).val) : rowsDy T y = T g k x := by
  have h0 : (x 0).val < 1 := (x 0).isLt
  have h1 : (x 1).val < 256 := (x 1).isLt
  unfold rowsDy
  congr 1
  · exact Fin.ext e0
  · exact Fin.ext (show (y 1).val / 256 = k.val by omega)
  · refine Eq.trans ?_ (ValueIdx.eq_ix2 x).symm
    congr 1
    · exact Fin.ext (show 0 = (x 0).val by omega)
    · exact Fin.ext (show (y 1).val % 256 = (x 1).val by omega)

end Tiled

/-! ## The five results -/

/-- Codes and scales of `x`, -/
def xcVal (V : S256x7168.Idx → Elt F .bf16) : S256x7168.Idx → Elt F .fp8e4m3 := tiledX fun g k => cCodes (chunkX V g k)
def xsVal (V : S256x7168.Idx → Elt F .bf16) : S2x7168.Idx → Elt F .f32 := rowsX fun g k => cScale (chunkX V g k)
/-- codes and scales of `dy`, -/
def dycVal (W : S256x2560.Idx → Elt F .bf16) : S256x2560.Idx → Elt F .fp8e4m3 := tiledDy fun g k => cCodes (chunkDy W g k)
def dysVal (W : S256x2560.Idx → Elt F .bf16) : S2x2560.Idx → Elt F .f32 := rowsDy fun g k => cScale (chunkDy W g k)
/-- a decoded block of 256 columns of either, -/
def pairX (V : S256x7168.Idx → Elt F .bf16) (k : Fin 28) : FVec F S256x256 .bf16 := cPair (chunkX V 0 k) (chunkX V 1 k)
def pairDy (W : S256x2560.Idx → Elt F .bf16) (j : Fin 10) : FVec F S256x256 .bf16 := cPair (chunkDy W 0 j) (chunkDy W 1 j)
/-- and the weight gradient. -/
def dwVal (V : S256x7168.Idx → Elt F .bf16) (W : S256x2560.Idx → Elt F .bf16) : S7168x2560.Idx → Elt F .f32 := fun y =>
  cTile (pairX V ⟨(y 0).val / 256, by have : (y 0).val < 7168 := (y 0).isLt; omega⟩) (pairDy W ⟨(y 1).val / 256, by have : (y 1).val < 2560 := (y 1).isLt; omega⟩)
    (ValueIdx.ix2 ⟨(y 0).val % 256, by omega⟩ ⟨(y 1).val % 256, by omega⟩)

/-! ## The chunks the kernel reads -/

variable (c : Dev nD) (A : Buf (Elt F) (xM.view.loc (c : Thread nD τ))) (B : Buf (Elt F) (dyM.view.loc (c : Thread nD τ)))

abbrev kk (k : Fin k0_t1_loop.trips) : Fin 28 := ⟨k.val, trip_lt k⟩

theorem xTop_eq (k : Fin k0_t1_loop.trips) : xTop c (xBuf c A) k = chunkX (xM.view.read (Elt F) A) 0 (kk k) := by
  funext y
  show xvM.view.read (Elt F) (xBuf c A) ((Rect.unit (s := S256x7168) (k0_off4 k) S128x256.size (k0_off4_inb k)).emb y) = _
  rw [xBuf_read]
  unfold chunkX
  congr 1
  funext a; apply Fin.ext
  have e0 : k0_off4 k 0 = 0 := congrFun (off4_eq k) 0
  have e1 : k0_off4 k 1 = k.val * 256 := congrFun (off4_eq k) 1
  fin_cases a
  · show k0_off4 k 0 + 1 * (y 0).val = 128 * 0 + (y 0).val; omega
  · show k0_off4 k 1 + 1 * (y 1).val = 256 * k.val + (y 1).val; omega
theorem xBot_eq (k : Fin k0_t1_loop.trips) : xBot c (xBuf c A) k = chunkX (xM.view.read (Elt F) A) 1 (kk k) := by
  funext y
  show xvM.view.read (Elt F) (xBuf c A) ((Rect.unit (s := S256x7168) (k0_off6 k) S128x256.size (k0_off6_inb k)).emb y) = _
  rw [xBuf_read]
  unfold chunkX
  congr 1
  funext a; apply Fin.ext
  have e0 : k0_off6 k 0 = 128 := congrFun (off6_eq k) 0
  have e1 : k0_off6 k 1 = k.val * 256 := congrFun (off6_eq k) 1
  fin_cases a
  · show k0_off6 k 0 + 1 * (y 0).val = 128 * 1 + (y 0).val; omega
  · show k0_off6 k 1 + 1 * (y 1).val = 256 * k.val + (y 1).val; omega

theorem dyChunk_eq (g : Fin 2) (j : Fin 10) : dyChunk c B g j = chunkDy (dyM.view.read (Elt F) B) g j := by
  funext y
  show dyvM.view.read (Elt F) (dyvM.view.writes (Elt F) dyvM.view.junk [⟨Rect.whole S256x2560, ReadAs.same.apply (dyM.view.read (Elt F) B)⟩]) ((dyRect g j).emb y) = _
  rw [View.read_writes_whole]
  unfold chunkDy
  show dyM.view.read (Elt F) B ((dyRect g j).emb y) = _
  congr 1
  funext a; apply Fin.ext
  fin_cases a
  · show 128 * g.val + 1 * (y 0).val = 128 * g.val + (y 0).val; omega
  · show 256 * j.val + 1 * (y 1).val = 256 * j.val + (y 1).val; omega

/-! ## The buffers filled by the first part -/

theorem dycBuf_read (f5 : Buf (Elt F) (dycvM.view.loc (c : Thread nD τ))) :
    dycvM.view.read (Elt F) (dycBuf c B f5) = dycVal (dyM.view.read (Elt F) B) := by
  funext y
  have hy0 : (y 0).val < 256 := (y 0).isLt
  have hy1 : (y 1).val < 2560 := (y 1).isLt
  refine View.read_writes_apply_of_pieces _ _ (dycVal (dyM.view.read (Elt F) B)) _ ?_ _ ?_
  · intro p hp x
    rw [dycPieces, List.mem_reverse, List.mem_ofFn] at hp
    obtain ⟨i, rfl⟩ := hp
    show shapeCast S128x256 (cCodes (dyChunk c B _ _)) _ x = _
    rw [shapeCast_self, dyChunk_eq]
    refine (tiledDy_at (fun g k => cCodes (chunkDy (dyM.view.read (Elt F) B) g k)) _ ⟨i.val % 2, by omega⟩ ⟨i.val / 2, by omega⟩ x ?_ ?_).symm
    · show 128 * (i.val % 2) + 1 * (x 0).val = 128 * (i.val % 2) + (x 0).val; omega
    · show 256 * (i.val / 2) + 1 * (x 1).val = 256 * (i.val / 2) + (x 1).val; omega
  · refine ⟨_, by rw [dycPieces, List.mem_reverse, List.mem_ofFn]; exact ⟨⟨2 * ((y 1).val / 256) + (y 0).val / 128, by omega⟩, rfl⟩, ?_⟩
    rw [Rect.mem_set_unit]
    intro a; fin_cases a
    · show 128 * ((2 * ((y 1).val / 256) + (y 0).val / 128) % 2) ≤ (y 0).val ∧ (y 0).val < 128 * ((2 * ((y 1).val / 256) + (y 0).val / 128) % 2) + 128; omega
    · show 256 * ((2 * ((y 1).val / 256) + (y 0).val / 128) / 2) ≤ (y 1).val ∧ (y 1).val < 256 * ((2 * ((y 1).val / 256) + (y 0).val / 128) / 2) + 256; omega

theorem dysBuf_read (f6 : Buf (Elt F) (dysvM.view.loc (c : Thread nD τ))) :
    dysvM.view.read (Elt F) (dysBuf c B f6) = dysVal (dyM.view.read (Elt F) B) := by
  funext y
  have hy0 : (y 0).val < 2 := (y 0).isLt
  have hy1 : (y 1).val < 2560 := (y 1).isLt
  refine View.read_writes_apply_of_pieces _ _ (dysVal (dyM.view.read (Elt F) B)) _ ?_ _ ?_
  · intro p hp x
    rw [dysPieces, List.mem_reverse, List.mem_ofFn] at hp
    obtain ⟨i, rfl⟩ := hp
    have hx : (x 0).val < 1 := (x 0).isLt
    show shapeCast S1x256 (cScale (dyChunk c B _ _)) _ x = _
    rw [shapeCast_self, dyChunk_eq]
    refine (rowsDy_at (fun g k => cScale (chunkDy (dyM.view.read (Elt F) B) g k)) _ ⟨i.val % 2, by omega⟩ ⟨i.val / 2, by omega⟩ x ?_ ?_).symm
    · show (i.val % 2) + 1 * (x 0).val = (i.val % 2); omega
    · show 256 * (i.val / 2) + 1 * (x 1).val = 256 * (i.val / 2) + (x 1).val; omega
  · refine ⟨_, by rw [dysPieces, List.mem_reverse, List.mem_ofFn]; exact ⟨⟨2 * ((y 1).val / 256) + (y 0).val, by omega⟩, rfl⟩, ?_⟩
    rw [Rect.mem_set_unit]
    intro a; fin_cases a
    · show ((2 * ((y 1).val / 256) + (y 0).val) % 2) ≤ (y 0).val ∧ (y 0).val < ((2 * ((y 1).val / 256) + (y 0).val) % 2) + 1; omega
    · show 256 * ((2 * ((y 1).val / 256) + (y 0).val) / 2) ≤ (y 1).val ∧ (y 1).val < 256 * ((2 * ((y 1).val / 256) + (y 0).val) / 2) + 256; omega

/-- The decoded `dy`, a block of columns at a time. -/
theorem dqCols_eq (j : Fin 10) : dqCols c (dqBuf c B) j = pairDy (dyM.view.read (Elt F) B) j := by
  funext z
  have hz0 : (z 0).val < 256 := (z 0).isLt
  have hz1 : (z 1).val < 256 := (z 1).isLt
  show dqM.view.read (Elt F) (dqBuf c B) ((Rect.unit (s := S256x2560) ![0, 256 * j.val] S256x256.size (dqCols_inb j)).emb z) = _
  have key : ∀ (y : S256x2560.Idx) (i : Fin 10) (x : S256x256.Idx), (y 0).val = (x 0).val → (y 1).val = 256 * i.val + (x 1).val →
      (fun y : S256x2560.Idx => pairDy (dyM.view.read (Elt F) B) ⟨(y 1).val / 256, by have : (y 1).val < 2560 := (y 1).isLt; omega⟩
        (ValueIdx.ix2 (y 0) ⟨(y 1).val % 256, by omega⟩)) y = pairDy (dyM.view.read (Elt F) B) i x := by
    intro y i x e0 e1
    have hx1 : (x 1).val < 256 := (x 1).isLt
    dsimp only
    congr 1
    · exact Fin.ext (show (y 1).val / 256 = i.val by omega)
    · refine Eq.trans ?_ (ValueIdx.eq_ix2 x).symm
      congr 1
      · exact Fin.ext e0
      · exact Fin.ext (show (y 1).val % 256 = (x 1).val by omega)
  refine (View.read_writes_apply_of_pieces _ _ (fun y : S256x2560.Idx => pairDy (dyM.view.read (Elt F) B) ⟨(y 1).val / 256, by have : (y 1).val < 2560 := (y 1).isLt; omega⟩
        (ValueIdx.ix2 (y 0) ⟨(y 1).val % 256, by omega⟩)) _ ?_ _ ?_).trans (key _ j z ?_ ?_)
  · intro p hp x
    rw [dqPieces, List.mem_reverse, List.mem_ofFn] at hp
    obtain ⟨i, rfl⟩ := hp
    show shapeCast S256x256 (cPair (dyChunk c B 0 i) (dyChunk c B 1 i)) _ x = _
    rw [shapeCast_self, dyChunk_eq, dyChunk_eq]
    refine (key _ i x ?_ ?_).symm
    · show 0 + 1 * (x 0).val = (x 0).val; omega
    · show 256 * i.val + 1 * (x 1).val = 256 * i.val + (x 1).val; omega
  · refine ⟨_, by rw [dqPieces, List.mem_reverse, List.mem_ofFn]; exact ⟨j, rfl⟩, ?_⟩
    rw [Rect.mem_set_unit]
    intro a; fin_cases a
    · show 0 ≤ 0 + 1 * (z 0).val ∧ 0 + 1 * (z 0).val < 0 + 256; omega
    · show 256 * j.val ≤ 256 * j.val + 1 * (z 1).val ∧ 256 * j.val + 1 * (z 1).val < 256 * j.val + 256; omega
  · show 0 + 1 * (z 0).val = (z 0).val; omega
  · show 256 * j.val + 1 * (z 1).val = 256 * j.val + (z 1).val; omega

/-! ## The buffers filled by the loop -/

/-- All pieces stored by the trips before `n`. -/
def cAll (X : Buf (Elt F) (xvM.view.loc (c : Thread nD τ))) : ℕ → List (View.Piece (Elt F) S256x7168 .fp8e4m3)
  | 0 => []
  | n + 1 => if h : n < k0_t1_loop.trips then codePieces c X ⟨n, h⟩ ++ cAll X n else cAll X n
def sAll (X : Buf (Elt F) (xvM.view.loc (c : Thread nD τ))) : ℕ → List (View.Piece (Elt F) S2x7168 .f32)
  | 0 => []
  | n + 1 => if h : n < k0_t1_loop.trips then scalePieces c X ⟨n, h⟩ ++ sAll X n else sAll X n

theorem accC_eq (X : Buf (Elt F) (xvM.view.loc (c : Thread nD τ))) (fc : Buf (Elt F) (xcvM.view.loc (c : Thread nD τ))) (n : ℕ) :
    accC c X fc n = xcvM.view.writes (Elt F) fc (cAll c X n) := by
  induction n with
  | zero => rfl
  | succ n ih =>
    rw [accC, cAll]
    by_cases h : n < k0_t1_loop.trips
    · rw [dif_pos h, dif_pos h, View.writes_append, ih]
    · rw [dif_neg h, dif_neg h, ih]
theorem accS_eq (X : Buf (Elt F) (xvM.view.loc (c : Thread nD τ))) (fs : Buf (Elt F) (xsvM.view.loc (c : Thread nD τ))) (n : ℕ) :
    accS c X fs n = xsvM.view.writes (Elt F) fs (sAll c X n) := by
  induction n with
  | zero => rfl
  | succ n ih =>
    rw [accS, sAll]
    by_cases h : n < k0_t1_loop.trips
    · rw [dif_pos h, dif_pos h, View.writes_append, ih]
    · rw [dif_neg h, dif_neg h, ih]

theorem mem_cAll (X : Buf (Elt F) (xvM.view.loc (c : Thread nD τ))) (n : ℕ) (p : View.Piece (Elt F) S256x7168 .fp8e4m3) :
    p ∈ cAll c X n ↔ ∃ k : Fin k0_t1_loop.trips, k.val < n ∧ p ∈ codePieces c X k := by
  induction n with
  | zero => exact ⟨fun h => absurd h List.not_mem_nil, fun ⟨k, h, _⟩ => absurd h (Nat.not_lt_zero _)⟩
  | succ n ih =>
    rw [cAll]
    by_cases h : n < k0_t1_loop.trips
    · rw [dif_pos h, List.mem_append, ih]
      constructor
      · rintro (hp | ⟨k, hk, hp⟩)
        · exact ⟨⟨n, h⟩, Nat.lt_succ_self n, hp⟩
        · exact ⟨k, Nat.lt_succ_of_lt hk, hp⟩
      · rintro ⟨k, hk, hp⟩
        rcases Nat.lt_succ_iff_lt_or_eq.1 hk with hk | hk
        · exact .inr ⟨k, hk, hp⟩
        · have : k = ⟨n, h⟩ := Fin.ext hk
          exact .inl (this ▸ hp)
    · rw [dif_neg h, ih]
      exact ⟨fun ⟨k, hk, hp⟩ => ⟨k, Nat.lt_succ_of_lt hk, hp⟩, fun ⟨k, hk, hp⟩ => ⟨k, by have := k.isLt; omega, hp⟩⟩
theorem mem_sAll (X : Buf (Elt F) (xvM.view.loc (c : Thread nD τ))) (n : ℕ) (p : View.Piece (Elt F) S2x7168 .f32) :
    p ∈ sAll c X n ↔ ∃ k : Fin k0_t1_loop.trips, k.val < n ∧ p ∈ scalePieces c X k := by
  induction n with
  | zero => exact ⟨fun h => absurd h List.not_mem_nil, fun ⟨k, h, _⟩ => absurd h (Nat.not_lt_zero _)⟩
  | succ n ih =>
    rw [sAll]
    by_cases h : n < k0_t1_loop.trips
    · rw [dif_pos h, List.mem_append, ih]
      constructor
      · rintro (hp | ⟨k, hk, hp⟩)
        · exact ⟨⟨n, h⟩, Nat.lt_succ_self n, hp⟩
        · exact ⟨k, Nat.lt_succ_of_lt hk, hp⟩
      · rintro ⟨k, hk, hp⟩
        rcases Nat.lt_succ_iff_lt_or_eq.1 hk with hk | hk
        · exact .inr ⟨k, hk, hp⟩
        · have : k = ⟨n, h⟩ := Fin.ext hk
          exact .inl (this ▸ hp)
    · rw [dif_neg h, ih]
      exact ⟨fun ⟨k, hk, hp⟩ => ⟨k, Nat.lt_succ_of_lt hk, hp⟩, fun ⟨k, hk, hp⟩ => ⟨k, by have := k.isLt; omega, hp⟩⟩

theorem xcBuf_read (f3 : Buf (Elt F) (xcvM.view.loc (c : Thread nD τ))) :
    xcvM.view.read (Elt F) (xcBuf c A f3) = xcVal (xM.view.read (Elt F) A) := by
  funext y
  have hy0 : (y 0).val < 256 := (y 0).isLt
  have hy1 : (y 1).val < 7168 := (y 1).isLt
  have hT := trips_eq
  unfold xcBuf
  rw [accC_eq]
  refine View.read_writes_apply_of_pieces _ _ (xcVal (xM.view.read (Elt F) A)) _ ?_ _ ?_
  · intro p hp x
    obtain ⟨k, -, hp⟩ := (mem_cAll c _ _ p).1 hp
    have e60 : k0_off6 k 0 = 128 := congrFun (off6_eq k) 0
    have e61 : k0_off6 k 1 = k.val * 256 := congrFun (off6_eq k) 1
    have e40 : k0_off4 k 0 = 0 := congrFun (off4_eq k) 0
    have e41 : k0_off4 k 1 = k.val * 256 := congrFun (off4_eq k) 1
    rcases List.mem_cons.1 hp with rfl | hp
    · show cCodes (xBot c (xBuf c A) k) x = _
      rw [xBot_eq]
      refine (tiledX_at (fun g k => cCodes (chunkX (xM.view.read (Elt F) A) g k)) _ 1 (kk k) x ?_ ?_).symm
      · show k0_off6 k 0 + 1 * (x 0).val = 128 * 1 + (x 0).val; omega
      · show k0_off6 k 1 + 1 * (x 1).val = 256 * k.val + (x 1).val; omega
    · obtain rfl := List.mem_singleton.1 hp
      show cCodes (xTop c (xBuf c A) k) x = _
      rw [xTop_eq]
      refine (tiledX_at (fun g k => cCodes (chunkX (xM.view.read (Elt F) A) g k)) _ 0 (kk k) x ?_ ?_).symm
      · show k0_off4 k 0 + 1 * (x 0).val = 128 * 0 + (x 0).val; omega
      · show k0_off4 k 1 + 1 * (x 1).val = 256 * k.val + (x 1).val; omega
  · have hk : (y 1).val / 256 < k0_t1_loop.trips := by omega
    have e60 : k0_off6 ⟨_, hk⟩ 0 = 128 := congrFun (off6_eq ⟨_, hk⟩) 0
    have e61 : k0_off6 ⟨_, hk⟩ 1 = (y 1).val / 256 * 256 := congrFun (off6_eq ⟨_, hk⟩) 1
    have e40 : k0_off4 ⟨_, hk⟩ 0 = 0 := congrFun (off4_eq ⟨_, hk⟩) 0
    have e41 : k0_off4 ⟨_, hk⟩ 1 = (y 1).val / 256 * 256 := congrFun (off4_eq ⟨_, hk⟩) 1
    by_cases h : (y 0).val < 128
    · refine ⟨_, (mem_cAll c _ _ _).2 ⟨⟨_, hk⟩, hk, List.mem_cons_of_mem _ (List.mem_singleton.2 rfl)⟩, ?_⟩
      rw [Rect.mem_set_unit]
      intro a; fin_cases a
      · show k0_off4 ⟨_, hk⟩ 0 ≤ (y 0).val ∧ (y 0).val < k0_off4 ⟨_, hk⟩ 0 + 128; omega
      · show k0_off4 ⟨_, hk⟩ 1 ≤ (y 1).val ∧ (y 1).val < k0_off4 ⟨_, hk⟩ 1 + 256; omega
    · refine ⟨_, (mem_cAll c _ _ _).2 ⟨⟨_, hk⟩, hk, List.mem_cons_self⟩, ?_⟩
      rw [Rect.mem_set_unit]
      intro a; fin_cases a
      · show k0_off6 ⟨_, hk⟩ 0 ≤ (y 0).val ∧ (y 0).val < k0_off6 ⟨_, hk⟩ 0 + 128; omega
      · show k0_off6 ⟨_, hk⟩ 1 ≤ (y 1).val ∧ (y 1).val < k0_off6 ⟨_, hk⟩ 1 + 256; omega

theorem xsBuf_read (f4 : Buf (Elt F) (xsvM.view.loc (c : Thread nD τ))) :
    xsvM.view.read (Elt F) (xsBuf c A f4) = xsVal (xM.view.read (Elt F) A) := by
  funext y
  have hy0 : (y 0).val < 2 := (y 0).isLt
  have hy1 : (y 1).val < 7168 := (y 1).isLt
  have hT := trips_eq
  unfold xsBuf
  rw [accS_eq]
  refine View.read_writes_apply_of_pieces _ _ (xsVal (xM.view.read (Elt F) A)) _ ?_ _ ?_
  · intro p hp x
    obtain ⟨k, -, hp⟩ := (mem_sAll c _ _ p).1 hp
    have e70 : k0_off7 k 0 = 1 := congrFun (off7_eq k) 0
    have e71 : k0_off7 k 1 = k.val * 256 := congrFun (off7_eq k) 1
    have e50 : k0_off5 k 0 = 0 := congrFun (off5_eq k) 0
    have e51 : k0_off5 k 1 = k.val * 256 := congrFun (off5_eq k) 1
    rcases List.mem_cons.1 hp with rfl | hp
    · have hx : (x 0).val < 1 := (x 0).isLt
      show cScale (xBot c (xBuf c A) k) x = _
      rw [xBot_eq]
      refine (rowsX_at (fun g k => cScale (chunkX (xM.view.read (Elt F) A) g k)) _ 1 (kk k) x ?_ ?_).symm
      · show k0_off7 k 0 + 1 * (x 0).val = 1; omega
      · show k0_off7 k 1 + 1 * (x 1).val = 256 * k.val + (x 1).val; omega
    · obtain rfl := List.mem_singleton.1 hp
      have hx : (x 0).val < 1 := (x 0).isLt
      show cScale (xTop c (xBuf c A) k) x = _
      rw [xTop_eq]
      refine (rowsX_at (fun g k => cScale (chunkX (xM.view.read (Elt F) A) g k)) _ 0 (kk k) x ?_ ?_).symm
      · show k0_off5 k 0 + 1 * (x 0).val = 0; omega
      · show k0_off5 k 1 + 1 * (x 1).val = 256 * k.val + (x 1).val; omega
  · have hk : (y 1).val / 256 < k0_t1_loop.trips := by omega
    have e70 : k0_off7 ⟨_, hk⟩ 0 = 1 := congrFun (off7_eq ⟨_, hk⟩) 0
    have e71 : k0_off7 ⟨_, hk⟩ 1 = (y 1).val / 256 * 256 := congrFun (off7_eq ⟨_, hk⟩) 1
    have e50 : k0_off5 ⟨_, hk⟩ 0 = 0 := congrFun (off5_eq ⟨_, hk⟩) 0
    have e51 : k0_off5 ⟨_, hk⟩ 1 = (y 1).val / 256 * 256 := congrFun (off5_eq ⟨_, hk⟩) 1
    by_cases h : (y 0).val < 1
    · refine ⟨_, (mem_sAll c _ _ _).2 ⟨⟨_, hk⟩, hk, List.mem_cons_of_mem _ (List.mem_singleton.2 rfl)⟩, ?_⟩
      rw [Rect.mem_set_unit]
      intro a; fin_cases a
      · show k0_off5 ⟨_, hk⟩ 0 ≤ (y 0).val ∧ (y 0).val < k0_off5 ⟨_, hk⟩ 0 + 1; omega
      · show k0_off5 ⟨_, hk⟩ 1 ≤ (y 1).val ∧ (y 1).val < k0_off5 ⟨_, hk⟩ 1 + 256; omega
    · refine ⟨_, (mem_sAll c _ _ _).2 ⟨⟨_, hk⟩, hk, List.mem_cons_self⟩, ?_⟩
      rw [Rect.mem_set_unit]
      intro a; fin_cases a
      · show k0_off7 ⟨_, hk⟩ 0 ≤ (y 0).val ∧ (y 0).val < k0_off7 ⟨_, hk⟩ 0 + 1; omega
      · show k0_off7 ⟨_, hk⟩ 1 ≤ (y 1).val ∧ (y 1).val < k0_off7 ⟨_, hk⟩ 1 + 256; omega

/-- The block of rows that trip `k` sends is the weight gradient's. -/
theorem dwBlock_eq (k : Fin k0_t1_loop.trips) (y : S256x2560.Idx) (z : S7168x2560.Idx)
    (e0 : (z 0).val = 256 * k.val + (y 0).val) (e1 : (z 1).val = (y 1).val) :
    dwBlock c (xBuf c A) (dqBuf c B) k y = dwVal (xM.view.read (Elt F) A) (dyM.view.read (Elt F) B) z := by
  have hy0 : (y 0).val < 256 := (y 0).isLt
  have hy1 : (y 1).val < 2560 := (y 1).isLt
  unfold dwBlock rowTile dwVal
  rw [dqCols_eq, xTop_eq, xBot_eq]
  show cTile (pairX (xM.view.read (Elt F) A) (kk k)) _ _ = _
  congr 1
  · exact congrArg _ (Fin.ext (show k.val = (z 0).val / 256 by omega))
  · exact congrArg _ (Fin.ext (show (y 1).val / 256 = (z 1).val / 256 by omega))
  · congr 1
    · exact Fin.ext (show (y 0).val = (z 0).val % 256 by omega)
    · exact Fin.ext (show (y 1).val % 256 = (z 1).val % 256 by omega)

end Cert.Proof.Wgrad

end
-- ==== Proof.Split.lean ====
/-
  Whole buffers as the pieces the kernel works on, and back: the first result as its twenty-eight blocks of 256 rows,
  the ring buffer as its eight slots, and the semaphores one by one.
-/
module

public import proofs.«01_k».proof.Proof.Values

@[expose] public section

noncomputable section

namespace Cert.Proof.Wgrad

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

theorem entails_of_eq' {P Q : sProp 𝕄} (e : P = Q) : P ⊢ Q := e ▸ .rfl

/-- A whole buffer's elements are all of them. -/
theorem whole_held (c : Dev nD) (b : Ref sig .tc) (f : Buf (Elt F) ((c : Thread nD τ).loc b)) :
    (bufP c (Memref.whole b) f : sProp 𝕄) = (((c : Thread nD τ).loc b) ↦{fullShare} f) :=
  congrArg (fun S => (((c : Thread nD τ).loc b) ↦[S]{fullShare} f : sProp 𝕄)) (View.set_whole b)

/-! ## The element sets -/

/-- The rows of block `b`. -/
abbrev rowSet (b : Fin k0_t1_loop.trips) : Finset S7168x2560.Idx :=
  (Rect.unit (s := S7168x2560) (rowOff (Ring.bk 28 b.val)) S256x2560.size (rowOff_inb (Ring.bk 28 b.val))).set
/-- Slot `s` of the ring buffer. -/
abbrev slotSet (s : Fin 8) : Finset S8x256x2560.Idx := (Rect.unit (s := S8x256x2560) (slotOff s) S1x256x2560.size (slotOff_inb s)).set

theorem dwRow_set (b : Fin k0_t1_loop.trips) : (dwRow (Ring.bk 28 b.val)).view.set = rowSet b := View.set_slice_whole _ _
theorem rslot_set (s : Fin 8) : (rslot s).view.set = slotSet s := (View.set_reshape _ _).trans (View.set_slice_whole _ _)

theorem mem_rowSet (b : Fin k0_t1_loop.trips) (y : S7168x2560.Idx) : y ∈ rowSet b ↔ (y 0).val / 256 = b.val := by
  rw [Rect.mem_set_unit]
  have e : (Ring.bk 28 b.val).val = b.val := Ring.bk_val (trip_lt b)
  have h1 : (y 1).val < 2560 := (y 1).isLt
  constructor
  · intro H
    have a0 : (Ring.bk 28 b.val).val * 256 ≤ (y 0).val ∧ (y 0).val < (Ring.bk 28 b.val).val * 256 + 256 := H 0
    omega
  · intro H i; fin_cases i
    · show (Ring.bk 28 b.val).val * 256 ≤ (y 0).val ∧ (y 0).val < (Ring.bk 28 b.val).val * 256 + 256; omega
    · show 0 ≤ (y 1).val ∧ (y 1).val < 0 + 2560; omega

theorem mem_slotSet (s : Fin 8) (y : S8x256x2560.Idx) : y ∈ slotSet s ↔ (y 0).val = s.val := by
  rw [Rect.mem_set_unit]
  have h1 : (y 1).val < 256 := (y 1).isLt
  have h2 : (y 2).val < 2560 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 2560; omega

theorem rowSet_disjoint : ∀ b b' : Fin k0_t1_loop.trips, b ≠ b' → Disjoint (rowSet b) (rowSet b') := by
  intro b b' hne; rw [Finset.disjoint_left]; intro y hy hy'; rw [mem_rowSet] at hy hy'; exact hne (Fin.ext (hy.symm.trans hy'))
theorem rowSet_cover : (Finset.univ : Finset (Fin k0_t1_loop.trips)).biUnion rowSet = Finset.univ := by
  ext y; simp only [Finset.mem_biUnion, Finset.mem_univ, true_and, iff_true]
  have h0 : (y 0).val < 7168 := (y 0).isLt
  exact ⟨⟨(y 0).val / 256, by have := trips_eq; omega⟩, by rw [mem_rowSet]⟩
theorem slotSet_disjoint : ∀ s s' : Fin 8, s ≠ s' → Disjoint (slotSet s) (slotSet s') := by
  intro s s' hne; rw [Finset.disjoint_left]; intro y hy hy'; rw [mem_slotSet] at hy hy'; exact hne (Fin.ext (hy.symm.trans hy'))
theorem slotSet_cover : (Finset.univ : Finset (Fin 8)).biUnion slotSet = Finset.univ := by
  ext y; simp only [Finset.mem_biUnion, Finset.mem_univ, true_and, iff_true]; exact ⟨(y 0).cast (by decide), by rw [mem_slotSet]; rfl⟩

/-! ## The first result -/

theorem rowP_eq (c : Dev nD) (b : Fin k0_t1_loop.trips) (g : Buf (Elt F) ((c : Thread nD τ).loc main_v2_0)) :
    (rowP c (Ring.bk 28 b.val) g : sProp 𝕄) = (((c : Thread nD τ).loc main_v2_0) ↦[rowSet b]{fullShare} g) :=
  congrArg (fun S => (((c : Thread nD τ).loc main_v2_0) ↦[S]{fullShare} g : sProp 𝕄)) (dwRow_set b)

/-- The first result whole is its blocks. -/
theorem rows_eq (c : Dev nD) (g : Buf (Elt F) ((c : Thread nD τ).loc main_v2_0)) :
    (((c : Thread nD τ).loc main_v2_0) ↦{fullShare} g : sProp 𝕄) = bigSep Finset.univ fun b : Fin k0_t1_loop.trips => rowP c (Ring.bk 28 b.val) g := by
  rw [Ring.pointsTo_blocks (ℓ := (c : Thread nD τ).loc main_v2_0) rowSet rowSet_disjoint rowSet_cover]
  exact bigSep_congr fun b _ => (rowP_eq c b g).symm

section Rows
variable (c : Dev nD) (A : Buf (Elt F) (xM.view.loc (c : Thread nD τ))) (B : Buf (Elt F) (dyM.view.loc (c : Thread nD τ)))

/-- Before the first trip every block of rows is here, at anything. -/
theorem rows_start (X : Buf (Elt F) (xvM.view.loc (c : Thread nD τ))) (D : Buf (Elt F) (dqM.view.loc (c : Thread nD τ)))
    (g : Buf (Elt F) ((c : Thread nD τ).loc main_v2_0)) :
    (((c : Thread nD τ).loc main_v2_0) ↦{fullShare} g : sProp 𝕄) ⊢ bigSep Finset.univ (blockSt c X D 0) := by
  rw [rows_eq]
  refine BI.bigSep_mono fun b _ => ?_
  rw [blockSt, if_pos (Nat.zero_le _)]
  show (rowP c (Ring.bk 28 b.val) g : sProp 𝕄) ⊢ iprop(∃ g, rowP c (Ring.bk 28 b.val) g)
  iintro H; iexists g; iexact H

/-- After the last the blocks in place are the first result whole. -/
theorem rows_done : (bigSep Finset.univ (home c (xBuf c A) (dqBuf c B)) : sProp 𝕄)
    ⊢ (((c : Thread nD τ).loc main_v2_0) ↦{fullShare} (dwVal (xM.view.read (Elt F) A) (dyM.view.read (Elt F) B) : Buf (Elt F) ((c : Thread nD τ).loc main_v2_0))) := by
  rw [rows_eq]
  refine BI.bigSep_mono fun b _ => ?_
  show (home c (xBuf c A) (dqBuf c B) b : sProp 𝕄) ⊢ rowP c (Ring.bk 28 b.val) (dwVal (xM.view.read (Elt F) A) (dyM.view.read (Elt F) B) : Buf (Elt F) ((c : Thread nD τ).loc main_v2_0))
  unfold home
  iintro ⟨%g, %hg, H⟩
  iapply (held_congr c (dwRow (Ring.bk 28 b.val)) g _ (by
    rw [hg]; funext y
    have hy0 : (y 0).val < 256 := (y 0).isLt
    have e : (Ring.bk 28 b.val).val = b.val := Ring.bk_val (trip_lt b)
    refine dwBlock_eq c A B b y _ ?_ ?_
    · show (Ring.bk 28 b.val).val * 256 + 1 * (y 0).val = _; omega
    · show 0 + 1 * (y 1).val = _; omega)) $$ H

end Rows

/-! ## The ring buffer and its semaphores -/

theorem slotP_eq (c : Dev nD) (s : Fin 8) (f : Buf (Elt F) ((c : Thread nD τ).loc cc0_scratch7)) :
    (slotP c s f : sProp 𝕄) = (((c : Thread nD τ).loc cc0_scratch7) ↦[slotSet s]{fullShare} f) :=
  congrArg (fun S => (((c : Thread nD τ).loc cc0_scratch7) ↦[S]{fullShare} f : sProp 𝕄)) (rslot_set s)

theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

/-- Before the first trip every slot and its semaphore is free. -/
theorem slots_start (c : Dev nD) (f : Buf (Elt F) ((c : Thread nD τ).loc cc0_scratch7)) :
    iprop((((c : Thread nD τ).loc cc0_scratch7) ↦{fullShare} f) ∗ (cellP c 0 ∗ cellP c 1 ∗ cellP c 2 ∗ cellP c 3 ∗ cellP c 4 ∗ cellP c 5 ∗ cellP c 6 ∗ cellP c 7))
      ⊢ (bigSep Finset.univ (slotSt c 0) : sProp 𝕄) := by
  rw [← bigSep_fin8 (F := F) (fun s => cellP c s), Ring.pointsTo_blocks (ℓ := (c : Thread nD τ).loc cc0_scratch7) slotSet slotSet_disjoint slotSet_cover]
  refine BIBase.Entails.trans (entails_of_eq' (BI.bigSep_sep Finset.univ _ (fun s : Fin 8 => cellP (F := F) c s)).symm) (BI.bigSep_mono fun s _ => ?_)
  rw [slotSt, if_pos (Nat.zero_le _), ← slotP_eq]
  show (iprop(slotP c s f ∗ cellP c s) : sProp 𝕄) ⊢ iprop((∃ f, slotP c s f) ∗ cellP c s)
  iintro ⟨H, Hc⟩
  isplitl [H]; · iexists f; iexact H
  iexact Hc

/-- The eight slots are the ring buffer whole again. -/
theorem slots_done (c : Dev nD) :
    iprop((∃ f, slotP c 0 f) ∗ (∃ f, slotP c 1 f) ∗ (∃ f, slotP c 2 f) ∗ (∃ f, slotP c 3 f) ∗ (∃ f, slotP c 4 f) ∗ (∃ f, slotP c 5 f) ∗ (∃ f, slotP c 6 f) ∗ (∃ f, slotP c 7 f))
      ⊢ (iprop(∃ f : Buf (Elt F) ((c : Thread nD τ).loc cc0_scratch7), ((c : Thread nD τ).loc cc0_scratch7) ↦{fullShare} f) : sProp 𝕄) := by
  rw [← bigSep_fin8 (F := F) (fun s => iprop(∃ f, slotP c s f))]
  refine BIBase.Entails.trans (BI.bigSep_mono fun s _ => ?_) (Ring.pointsTo_blocks_join_exists (ℓ := (c : Thread nD τ).loc cc0_scratch7) slotSet slotSet_disjoint slotSet_cover ringM.view.junk)
  show (iprop(∃ f, slotP c s f) : sProp 𝕄) ⊢ iprop(∃ f : Buf (Elt F) ((c : Thread nD τ).loc cc0_scratch7), ((c : Thread nD τ).loc cc0_scratch7) ↦[slotSet s]{fullShare} f)
  iintro ⟨%f, H⟩; iexists f; iapply (entails_of_eq' (slotP_eq c s f)); iexact H

/-- The kernel's own semaphores: of the copies in, of the slots, of the codes and of the scales out. -/
abbrev osem : Fin 14 → SemLoc sig := fun i =>
  if h : i.val < 3 then .dma (ism ⟨i.val, h⟩).sem
  else if h : i.val < 11 then .dma (csm ⟨i.val - 3, by omega⟩).sem
  else if i.val = 11 then .dma cc0_scratch10.sem
  else .dma (ssm ⟨i.val - 12, by omega⟩).sem

theorem ownSemFacts : Pipeline.OwnSemFacts (cfg0.spec) osem := by decide

/-- They are the cells the kernel's run is stated over. -/
theorem ownSems_eq (c : Dev nD) : (Pipeline.ownSems0 (Ix := Unit) (Name := ℕ) (U := UU nD τ) (Lvl := ℕ) (Val := Elt F) (τ := τ) osem c : sProp 𝕄)
    = iprop(inCell c 0 ∗ inCell c 1 ∗ inCell c 2 ∗ cellP c 0 ∗ cellP c 1 ∗ cellP c 2 ∗ cellP c 3 ∗ cellP c 4 ∗ cellP c 5 ∗ cellP c 6 ∗ cellP c 7
        ∗ outCell c ∗ scCell c 0 ∗ scCell c 1) :=
  Pipeline.ownSems0_eq_of_list c osem [0, 1, 2, 3, 4, 5, 6, 7, 8, 9, 10, 11, 12, 13] (by decide) (by decide)

end Cert.Proof.Wgrad

end
-- ==== Proof.Launch.lean ====
/-
  The program from launch to its end: the two reshapes, then the kernel. What it leaves: the five results as functions
  of the reshaped arguments, the arguments unchanged, every semaphore at zero.
-/
module

public import proofs.«01_k».proof.Proof.Split
public import Idealize.ShloMosaic.Lib.Pipeline.KitQuiescent

@[expose] public section

noncomputable section

namespace Cert.Proof.Wgrad

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Rounds

variable {F : FTy → Type} [FloatOps F]

local notation "𝕄" => MT nD τ sig Unit (Elt F) ℕ (UU nD τ) ℕ

variable (m : (ℓ : Loc nD τ sig) → Buf (Elt F) ℓ) (ρ : Dev nD → PrngReg)

/-- The reshaped arguments. -/
abbrev xIn (c : Dev nD) : S256x7168.Idx → Elt F .bf16 := Gen.V m c main_v0
abbrev dyIn (c : Dev nD) : S256x2560.Idx → Elt F .bf16 := Gen.V m c main_v1

/-- What the region starts from: the reshaped arguments, the results' buffers, and the kernel's own storage. -/
def before (c : Dev nD) : sProp 𝕄 :=
  iprop((((c : Thread nD τ).loc main_v0) ↦{fullShare} Gen.V m c main_v0) ∗ (((c : Thread nD τ).loc main_v1) ↦{fullShare} Gen.V m c main_v1)
    ∗ (((c : Thread nD τ).loc main_v2_0) ↦{fullShare} Gen.V m c main_v2_0) ∗ (((c : Thread nD τ).loc main_v2_1) ↦{fullShare} Gen.V m c main_v2_1)
    ∗ (((c : Thread nD τ).loc main_v2_2) ↦{fullShare} Gen.V m c main_v2_2) ∗ (((c : Thread nD τ).loc main_v2_3) ↦{fullShare} Gen.V m c main_v2_3)
    ∗ (((c : Thread nD τ).loc main_v2_4) ↦{fullShare} Gen.V m c main_v2_4)
    ∗ Pipeline.ownSems0 osem c ∗ Pipeline.scopedRest (cfg0.spec) c)

/-- The five results. -/
def results (c : Dev nD) : sProp 𝕄 :=
  iprop((((c : Thread nD τ).loc main_v2_0) ↦{fullShare} (dwVal (xIn m c) (dyIn m c) : Buf (Elt F) ((c : Thread nD τ).loc main_v2_0)))
    ∗ (((c : Thread nD τ).loc main_v2_1) ↦{fullShare} (xcVal (xIn m c) : Buf (Elt F) ((c : Thread nD τ).loc main_v2_1)))
    ∗ (((c : Thread nD τ).loc main_v2_2) ↦{fullShare} (xsVal (xIn m c) : Buf (Elt F) ((c : Thread nD τ).loc main_v2_2)))
    ∗ (((c : Thread nD τ).loc main_v2_3) ↦{fullShare} (dycVal (dyIn m c) : Buf (Elt F) ((c : Thread nD τ).loc main_v2_3)))
    ∗ (((c : Thread nD τ).loc main_v2_4) ↦{fullShare} (dysVal (dyIn m c) : Buf (Elt F) ((c : Thread nD τ).loc main_v2_4))))

/-- What it ends with. -/
def afterwards (c : Dev nD) : sProp 𝕄 := iprop(results m c ∗ Pipeline.ownSems0 osem c ∗ Pipeline.scopedRest (cfg0.spec) c)

/-- A result copied out whole holds what was copied. -/
theorem landed_val (c : Dev nD) (b : Ref sig .tc) (g : Buf (Elt F) ((c : Thread nD τ).loc b)) (v w : b.ty.shape.Idx → Elt F b.ty.elt) (h : v = w) :
    (bufP c (Memref.whole b) (landed c (Memref.whole b) g v) : sProp 𝕄) ⊢ (((c : Thread nD τ).loc b) ↦{fullShare} (w : Buf (Elt F) ((c : Thread nD τ).loc b))) := by
  subst h
  refine BIBase.Entails.trans (held_congr c (Memref.whole b) _ v ?_) (entails_of_eq' (whole_held c b v))
  exact View.read_writes_whole _ _ _

/-- The proof data of the region. -/
def dats (_ : Fin 1) (c : Dev nD) : Dat τ (Elt F) Unit ℕ (UU nD τ) ℕ cfg0 c where
  A w := w.elim0
  after w _ := w.elim0
  Φ t := if t.val = 0 then before m c else afterwards m c
  q _ := fullShare
  owed _ := 0

theorem defs_tc : (defs₀ (F := F)) .tc cfg0.body = fun _ => bodyG (F := F) := rfl
theorem prog_eq (t : Fin cfg0.N) : (defs₀ (F := F)) .tc cfg0.body (cfg0.bodyArgs t (cfg0.slots t)) = bodyG (F := F) :=
  (congrFun defs_tc _).trans rfl

theorem Φ_zero (c : Dev nD) (t : Fin cfg0.N) : (dats m 0 c).Φ t.castSucc = before m c := by
  rw [fin_N0 t]; show (if (t0_0.castSucc).val = 0 then before m c else afterwards m c) = _; exact if_pos rfl
theorem Φ_first (c : Dev nD) : (dats m 0 c).Φ 0 = before m c := by
  show (if (0 : Fin (cfg0.N + 1)).val = 0 then before m c else afterwards m c) = _; exact if_pos rfl
theorem Φ_last (c : Dev nD) : (dats m 0 c).Φ (Fin.last cfg0.N) = afterwards m c := by
  show (if (Fin.last cfg0.N).val = 0 then before m c else afterwards m c) = _; exact if_neg (by decide)
theorem Φ_one (c : Dev nD) (t : Fin cfg0.N) : (dats m 0 c).Φ t.succ = afterwards m c := by
  rw [fin_N0 t]; show (if (t0_0.succ).val = 0 then before m c else afterwards m c) = _; exact if_neg (by decide)

set_option maxHeartbeats 800000 in
set_option backward.proofsInPublic true in
/-- The kernel takes the region from its start to its end. -/
theorem body_run (c : Dev nD) (W) :
    iprop(before m c ∗ owes (c : Thread nD τ) 0 W)
      ⊢ wp frame (wpE (defs₀ (F := F)) 𝒱₀ (c : Thread nD τ) none) Set.univ (bodyG (F := F)) (fun _ => iprop(afterwards m c ∗ ∃ W, owes (c : Thread nD τ) 0 W)) := by
  unfold before
  rw [scopedRest0_eq, ownSems_eq, ← whole_held, ← whole_held, ← whole_held c main_v2_1, ← whole_held c main_v2_2, ← whole_held c main_v2_3, ← whole_held c main_v2_4]
  iintro ⟨⟨Hx, Hdy, Hdw, Hxc, Hxs, Hdyc, Hdys, ⟨Hi0, Hi1, Hi2, Hc0, Hc1, Hc2, Hc3, Hc4, Hc5, Hc6, Hc7, Hout, Hs0, Hs1⟩,
    ⟨⟨%f0, H0⟩, ⟨%f1, H1⟩, ⟨%f2, H2⟩, ⟨%f3, H3⟩, ⟨%f4, H4⟩, ⟨%f5, H5⟩, ⟨%f6, H6⟩, ⟨%f7, H7⟩⟩⟩, HW⟩
  ihave Hx := (colSplit_x c _).1 $$ Hx
  icases Hx with ⟨HxL, HxR⟩
  ihave H0 := (entails_of_eq' (whole_held c cc0_scratch0 f0).symm) $$ H0
  ihave H0 := (colSplit_xv c _).1 $$ H0
  icases H0 with ⟨H0L, H0R⟩
  ihave Hrows := (rows_start c (xBuf c (Gen.V m c main_v0)) (dqBuf c (Gen.V m c main_v1)) _) $$ Hdw
  ihave Hslots := (slots_start c f7) $$ [H7 Hc0 Hc1 Hc2 Hc3 Hc4 Hc5 Hc6 Hc7]
  · isplitl [H7]; · iexact H7
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    iexact Hc7
  ihave H1 := (entails_of_eq' (whole_held c cc0_scratch1 f1).symm) $$ H1
  ihave H2 := (entails_of_eq' (whole_held c cc0_scratch2 f2).symm) $$ H2
  ihave H3 := (entails_of_eq' (whole_held c cc0_scratch3 f3).symm) $$ H3
  ihave H4 := (entails_of_eq' (whole_held c cc0_scratch4 f4).symm) $$ H4
  ihave H5 := (entails_of_eq' (whole_held c cc0_scratch5 f5).symm) $$ H5
  ihave H6 := (entails_of_eq' (whole_held c cc0_scratch6 f6).symm) $$ H6
  iapply (wp_wand_r Idealize.ShloMosaic.frame (wpE (defs₀ (F := F)) 𝒱₀ (c : Thread nD τ) none) Set.univ
    (Q := fun _ => bodyPost c (Gen.V m c main_v0) (Gen.V m c main_v1) f3 f4 f5 f6 (Gen.V m c main_v2_1) (Gen.V m c main_v2_2) (Gen.V m c main_v2_3) (Gen.V m c main_v2_4)))
  isplitl [HxL HxR Hdy Hxc Hxs Hdyc Hdys H0L H0R H1 H2 H3 H4 H5 H6 Hi0 Hi1 Hi2 Hout Hs0 Hs1 Hrows Hslots HW]
  · iapply (bodyRun c (Gen.V m c main_v0) (Gen.V m c main_v1) f3 f4 f5 f6 (Gen.V m c main_v2_1) (Gen.V m c main_v2_2) (Gen.V m c main_v2_3) (Gen.V m c main_v2_4) f0 f0 f1 f2 W)
    isplitl [HxL]; · iexact HxL
    isplitl [HxR]; · iexact HxR
    isplitl [Hdy]; · iexact Hdy
    isplitl [Hxc]; · iexact Hxc
    isplitl [Hxs]; · iexact Hxs
    isplitl [Hdyc]; · iexact Hdyc
    isplitl [Hdys]; · iexact Hdys
    isplitl [H0L]; · iexact H0L
    isplitl [H0R]; · iexact H0R
    isplitl [H1]; · iexact H1
    isplitl [H2]; · iexact H2
    isplitl [H3]; · iexact H3
    isplitl [H4]; · iexact H4
    isplitl [H5]; · iexact H5
    isplitl [H6]; · iexact H6
    isplitl [Hi0]; · iexact Hi0
    isplitl [Hi1]; · iexact Hi1
    isplitl [Hi2]; · iexact Hi2
    isplitl [Hout]; · iexact Hout
    isplitl [Hs0]; · iexact Hs0
    isplitl [Hs1]; · iexact Hs1
    isplitl [Hrows]; · iexact Hrows
    isplitl [Hslots]; · iexact Hslots
    iexact HW
  · iintro %_
    unfold bodyPost afterwards results
    rw [scopedRest0_eq, ownSems_eq]
    iintro ⟨-, -, -, Hdw, Hxc, Hxs, Hdyc, Hdys, ⟨%f0, H0⟩, ⟨%f1, H1⟩, ⟨%f2, H2⟩, ⟨%f3', H3⟩, ⟨%f4', H4⟩, ⟨%f5', H5⟩, ⟨%f6', H6⟩, Hring,
      ⟨Hc0, Hc1, Hc2, Hc3, Hc4, Hc5, Hc6, Hc7⟩, Hi0, Hi1, Hi2, Hout, Hs0, Hs1, HW⟩
    isplitr [HW]
    swap; · iexact HW
    isplitl [Hdw Hxc Hxs Hdyc Hdys]
    · isplitl [Hdw]; · iapply (rows_done c (Gen.V m c main_v0) (Gen.V m c main_v1)); iexact Hdw
      isplitl [Hxc]; · iapply (landed_val c main_v2_1 _ _ _ (xcBuf_read c (Gen.V m c main_v0) f3)); iexact Hxc
      isplitl [Hxs]; · iapply (landed_val c main_v2_2 _ _ _ (xsBuf_read c (Gen.V m c main_v0) f4)); iexact Hxs
      isplitl [Hdyc]; · iapply (landed_val c main_v2_3 _ _ _ (dycBuf_read c (Gen.V m c main_v1) f5)); iexact Hdyc
      iapply (landed_val c main_v2_4 _ _ _ (dysBuf_read c (Gen.V m c main_v1) f6)); iexact Hdys
    isplitl [Hi0 Hi1 Hi2 Hc0 Hc1 Hc2 Hc3 Hc4 Hc5 Hc6 Hc7 Hout Hs0 Hs1]
    · isplitl [Hi0]; · iexact Hi0
      isplitl [Hi1]; · iexact Hi1
      isplitl [Hi2]; · iexact Hi2
      isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hout]; · iexact Hout
      isplitl [Hs0]; · iexact Hs0
      iexact Hs1
    isplitl [H0]; · iexists f0; iapply (entails_of_eq' (whole_held c cc0_scratch0 f0)); iexact H0
    isplitl [H1]; · iexists f1; iapply (entails_of_eq' (whole_held c cc0_scratch1 f1)); iexact H1
    isplitl [H2]; · iexists f2; iapply (entails_of_eq' (whole_held c cc0_scratch2 f2)); iexact H2
    isplitl [H3]; · iexists f3'; iapply (entails_of_eq' (whole_held c cc0_scratch3 f3')); iexact H3
    isplitl [H4]; · iexists f4'; iapply (entails_of_eq' (whole_held c cc0_scratch4 f4')); iexact H4
    isplitl [H5]; · iexists f5'; iapply (entails_of_eq' (whole_held c cc0_scratch5 f5')); iexact H5
    isplitl [H6]; · iexists f6'; iapply (entails_of_eq' (whole_held c cc0_scratch6 f6')); iexact H6
    iapply (slots_done c); iexact Hring

set_option backward.proofsInPublic true in
set_option backward.isDefEq.respectTransparency.types false in
theorem body_obligation (c : Dev nD) : BodyObligation (dats (F := F) m 0 c) (defs₀ (F := F)) 𝒱₀ () Set.univ := fun t => by
  rw [Φ_zero, Φ_one]
  unfold Dat.owesAt Pipeline.owesWithin
  rw [show (dats m 0 c).owed t.castSucc = 0 from rfl, show (dats m 0 c).owed t.succ = 0 from rfl]
  iintro ⟨HΦ, ⟨%W, -, HW⟩, -⟩
  sl_rw [prog_eq t]
  iapply (wp_wand_r Idealize.ShloMosaic.frame (wpE (defs₀ (F := F)) 𝒱₀ (c : Thread nD τ) none) Set.univ
    (Q := fun _ => iprop(afterwards m c ∗ ∃ W, owes (c : Thread nD τ) 0 W)))
  isplitl [HΦ HW]
  · iapply (body_run m c W)
    isplitl [HΦ]; · iexact HΦ
    iexact HW
  · iintro %_ ⟨HΦ, ⟨%W', HW⟩⟩
    isplitl [HΦ]; · iexact HΦ
    isplitl [HW]
    · iexists W'; isplitr; · ipureintro; exact fun _ _ => Or.inl trivial
      iexact HW
    iapply (entails_of_eq' BI.bigSep_empty.symm)
    iempintro

/-! ## The run -/

def u₀ : UU nD τ := (initOf (Pipeline.cells cfgs cellOf_inj) (Pipeline.launchToks cfgs cellOf_inj), 1)

/-- What the final memory holds on core `c`. -/
def QY (c : Dev nD) (s : MemSt nD τ sig (Elt F)) : Prop :=
  s.mem ((c : Thread nD τ).loc main_v2_0) = (dwVal (xIn m c) (dyIn m c) : Buf (Elt F) ((c : Thread nD τ).loc main_v2_0))
  ∧ s.mem ((c : Thread nD τ).loc main_v2_1) = (xcVal (xIn m c) : Buf (Elt F) ((c : Thread nD τ).loc main_v2_1))
  ∧ s.mem ((c : Thread nD τ).loc main_v2_2) = (xsVal (xIn m c) : Buf (Elt F) ((c : Thread nD τ).loc main_v2_2))
  ∧ s.mem ((c : Thread nD τ).loc main_v2_3) = (dycVal (dyIn m c) : Buf (Elt F) ((c : Thread nD τ).loc main_v2_3))
  ∧ s.mem ((c : Thread nD τ).loc main_v2_4) = (dysVal (dyIn m c) : Buf (Elt F) ((c : Thread nD τ).loc main_v2_4))
  ∧ s.mem ((c : Thread nD τ).loc main_arg0) = m ((c : Thread nD τ).loc main_arg0)
  ∧ s.mem ((c : Thread nD τ).loc main_arg1) = m ((c : Thread nD τ).loc main_arg1)

def argsP (c : Dev nD) : sProp 𝕄 :=
  iprop((((c : Thread nD τ).loc main_arg0) ↦{fullShare} Gen.V m c main_arg0) ∗ (((c : Thread nD τ).loc main_arg1) ↦{fullShare} Gen.V m c main_arg1))

def startP (c : Dev nD) : sProp 𝕄 :=
  iprop((((c : Thread nD τ).loc main_v0) ↦{fullShare} Gen.V m c main_v0) ∗ (((c : Thread nD τ).loc main_v1) ↦{fullShare} Gen.V m c main_v1)
    ∗ (((c : Thread nD τ).loc main_v2_0) ↦{fullShare} Gen.V m c main_v2_0) ∗ (((c : Thread nD τ).loc main_v2_1) ↦{fullShare} Gen.V m c main_v2_1)
    ∗ (((c : Thread nD τ).loc main_v2_2) ↦{fullShare} Gen.V m c main_v2_2) ∗ (((c : Thread nD τ).loc main_v2_3) ↦{fullShare} Gen.V m c main_v2_3)
    ∗ (((c : Thread nD τ).loc main_v2_4) ↦{fullShare} Gen.V m c main_v2_4)
    ∗ Pipeline.ownSems0 osem c)

set_option maxHeartbeats 1600000 in
set_option backward.isDefEq.respectTransparency.types false in
/-- At any float values, from any memory with zero counters, every weakly fair execution of @main terminates with the
    five results at their values, the arguments unchanged and every semaphore at zero. -/
theorem run_main : θ_run defs (onTc (τ := τ) (main (F := F))) ⟨m, fun _ => 0, ρ⟩ (fun r => (∀ c : Dev nD, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := Gen.V m)
    (hmain := Pipeline.hmain_prefix cfgs 0 defs₀ 𝒱₀ m main hostOps0 hostOps0_sub hostOps0_fresh main_chain)
    (hA := fun _ w => w.elim0)
    (X := startP m) (Y := results m) (Z := argsP m)
    (hX := fun c => by
      rw [unscopedRest0_eq]
      unfold startP argsP
      iintro ⟨⟨Ha0, Ha1, Hx, Hdy, Hdw, Hxc, Hxs, Hdyc, Hdys⟩, HS, -, -, -⟩; imodintro
      isplitr [Ha0 Ha1]
      · isplitl [Hx]; · iexact Hx
        isplitl [Hdy]; · iexact Hdy
        isplitl [Hdw]; · iexact Hdw
        isplitl [Hxc]; · iexact Hxc
        isplitl [Hxs]; · iexact Hxs
        isplitl [Hdyc]; · iexact Hdyc
        isplitl [Hdys]; · iexact Hdys
        iexact HS
      isplitl [Ha0]; · iexact Ha0
      iexact Ha1)
    (hin := fun c => by
      rw [Φ_first]
      unfold startP before
      iintro ⟨⟨Hx, Hdy, Hdw, Hxc, Hxs, Hdyc, Hdys, HS⟩, HR⟩
      isplitl [Hx]; · iexact Hx
      isplitl [Hdy]; · iexact Hdy
      isplitl [Hdw]; · iexact Hdw
      isplitl [Hxc]; · iexact Hxc
      isplitl [Hxs]; · iexact Hxs
      isplitl [Hdyc]; · iexact Hdyc
      isplitl [Hdys]; · iexact Hdys
      isplitl [HS]; · iexact HS
      iexact HR)
    (hout := fun c => by
      rw [Φ_last]
      exact .rfl)
    (QY := QY m)
    (hY := fun c s' => by
      unfold results argsP
      rw [V_main_arg0, V_main_arg1]
      iintro ⟨⟨H0, H1, H2, H3, H4⟩, ⟨Ha0, Ha1⟩, HSI⟩
      icombine HSI H0 gives %h0
      icombine HSI H1 gives %h1
      icombine HSI H2 gives %h2
      icombine HSI H3 gives %h3
      icombine HSI H4 gives %h4
      icombine HSI Ha0 gives %h5
      icombine HSI Ha1 gives %h6
      imodintro
      isplitr
      · ipureintro
        exact ⟨Buf.eq_of_forall_mem_univ h0, Buf.eq_of_forall_mem_univ h1, Buf.eq_of_forall_mem_univ h2, Buf.eq_of_forall_mem_univ h3,
          Buf.eq_of_forall_mem_univ h4, Buf.eq_of_forall_mem_univ h5, Buf.eq_of_forall_mem_univ h6⟩
      iexact HSI)
    (hQ := fun _ hh hz => ⟨fun c => (hh c).2, hz⟩)

end Cert.Proof.Wgrad

end
-- ==== Proof.Frames.lean ====
/-
  The frames of the kernel, as compiled and as idealized. The run is proved once, at any float values; the compiled
  program and the idealized one are the same program text, so one run serves both.
-/
module

public import proofs.«01_k».proof.Proof.Launch
public import proofs.«01_k».proof.Proof.Gen.Kernel

@[expose] public section

noncomputable section

namespace Cert.Proof

open Idealize.ShloMosaic Idealize.ShloMosaic.TcCoe Idealize.SL.Sem

attribute [local instance] Cert.KernelIdeal.Gen.facts Cert.Kernel.Gen.facts

section Same
variable {F : FTy → Type} [FloatOps F]

/-- The compiled kernel function is the idealized one's text. -/
theorem kernel_same : @Cert.Kernel.cc0_token_group_wgrad F _ Cert.Kernel.Gen.facts = @Cert.KernelIdeal.cc0_token_group_wgrad F _ Cert.KernelIdeal.Gen.facts := rfl
theorem defs₀_same : @Cert.Kernel.defs₀ F _ Cert.Kernel.Gen.facts = @Cert.KernelIdeal.defs₀ F _ Cert.KernelIdeal.Gen.facts := rfl
theorem defs_same : @Cert.Kernel.defs F _ Cert.Kernel.Gen.facts = @Cert.KernelIdeal.defs F _ Cert.KernelIdeal.Gen.facts := rfl
theorem main_same : @Cert.Kernel.main F _ = @Cert.KernelIdeal.main F _ := rfl

end Same

/-- The idealized kernel terminates, its arguments unchanged, every semaphore at zero. -/
theorem frame_KernelIdeal {F : FTy → Type} [FloatOps F]
    (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run _ _ _).mono (fun _ h => ⟨fun c => (h.1 c).2.2.2.2.2, h.2⟩) (Wgrad.run_main m g)

/-- So does the compiled kernel. -/
theorem frame_Kernel {F : FTy → Type} [FloatOps F]
    (m : (ℓ : Loc Cert.Kernel.nD Cert.Kernel.τ Cert.Kernel.sig) → Buf (Elt F) ℓ) (g : Dev Cert.Kernel.nD → PrngReg) :
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  rw [main_same, defs_same]
  exact frame_KernelIdeal m g

end Cert.Proof

end
-- ==== Proof.Exponent.lean ====
/-
  One number's power-of-two scale, over the extended reals. The kernel finds the exponent by comparing the number with
  the values of float words, bit by bit from the top of the exponent field, and builds the scale and its inverse as float
  words again; the reference takes a logarithm, rounds it down and raises two to the result. For a number below `2 ^ 126`
  the two agree: that is `scaleWord_eq` and `invWord_eq`.
-/
module

public import Idealize.ShloMosaic.PureOps.Ideal

@[expose] public section

noncomputable section

namespace Cert.Proof.Wgrad

open Idealize.ShloMosaic

/-! ## The values of the words that have an exponent field and nothing else -/

/-- The value of the float word with exponent field `n`. -/
def powWord (n : BitVec 32) : EReal := Ideal.ofBits .f32 (n <<< 23)

/-- Field zero: zero. -/
theorem powWord_zero : powWord 0#32 = 0 := by
  simp [powWord, Ideal.ofBits, Ideal.ieee]

/-- A word with sign and fraction zero and exponent field `n`, from 1 to 254, is a power of two. -/
theorem ieee_pow (b : BitVec 32) (n : Nat) (h1 : 1 ≤ n) (h2 : n ≤ 254) (hs : b.extractLsb' (8 + 23) 1 = 0#1)
    (he : (b.extractLsb' 23 8).toNat = n) (hf : (b.extractLsb' 0 23).toNat = 0) :
    Ideal.ieee 8 23 b = (((2 : ℝ) ^ ((n : ℤ) - 127) : ℝ) : EReal) := by
  unfold Ideal.ieee
  simp only [hs, he, hf]
  rw [if_neg (by omega), if_neg (by omega)]
  congr 1
  have h : ((n : ℤ) - 127) = 23 + ((n : ℤ) - (2 ^ (8 - 1) - 1) - ((23 : ℕ) : ℤ)) := by norm_num
  rw [h, zpow_add₀ (by norm_num : (2 : ℝ) ≠ 0)]
  norm_num

/-- A field from 1 to 254: a power of two. -/
theorem powWord_pow (n : Nat) (h1 : 1 ≤ n) (h2 : n ≤ 254) :
    powWord (BitVec.ofNat 32 n) = (((2 : ℝ) ^ ((n : ℤ) - 127) : ℝ) : EReal) := by
  refine ieee_pow _ n h1 h2 ?_ ?_ ?_
  · apply BitVec.eq_of_toNat_eq
    simp only [BitVec.extractLsb'_toNat, BitVec.toNat_shiftLeft, BitVec.toNat_ofNat, Nat.shiftLeft_eq, Nat.shiftRight_eq_div_pow]
    omega
  · simp only [BitVec.extractLsb'_toNat, BitVec.toNat_shiftLeft, BitVec.toNat_ofNat, Nat.shiftLeft_eq, Nat.shiftRight_eq_div_pow]
    omega
  · simp only [BitVec.extractLsb'_toNat, BitVec.toNat_shiftLeft, BitVec.toNat_ofNat, Nat.shiftLeft_eq, Nat.shiftRight_eq_div_pow]
    omega

/-! ## The search -/

/-- One step for one number: `bit` is added to the field found so far unless the number is below that word's value. -/
def probeOne (m : EReal) (bit e : BitVec 32) : BitVec 32 := if m < powWord (e + bit) then e else e + bit

/-- What the search knows when bits worth `k` and more are settled: the field found is at most the wanted one, and the
    wanted one is less than `k` above it. -/
def Found (m : EReal) (k : Nat) (b : BitVec 32) : Prop :=
  ∃ n : Nat, b = BitVec.ofNat 32 n ∧ n + k ≤ 256 ∧ powWord (BitVec.ofNat 32 n) ≤ m ∧ (n + k = 256 ∨ m < powWord (BitVec.ofNat 32 (n + k)))

/-- A step halves what is left. -/
theorem Found.step {m : EReal} {k : Nat} {b : BitVec 32} (h : Found m (k + k) b) : Found m k (probeOne m (BitVec.ofNat 32 k) b) := by
  obtain ⟨n, rfl, hle, hlo, hhi⟩ := h
  unfold probeOne
  rw [show BitVec.ofNat 32 n + BitVec.ofNat 32 k = BitVec.ofNat 32 (n + k) from (BitVec.ofNat_add ..).symm]
  split
  · next hm => exact ⟨n, rfl, by omega, hlo, .inr hm⟩
  · next hm =>
    refine ⟨n + k, rfl, by omega, not_lt.mp hm, ?_⟩
    rcases hhi with e | e
    · exact .inl (by omega)
    · exact .inr (by rw [show n + k + k = n + (k + k) by omega]; exact e)

/-- The exponent field that the search finds. -/
def fieldOne (m : EReal) : BitVec 32 :=
  probeOne m 1#32 (probeOne m 2#32 (probeOne m 4#32 (probeOne m 8#32 (probeOne m 16#32 (probeOne m 32#32 (probeOne m 64#32 (probeOne m 128#32 0#32)))))))

/-- The search ends at the field whose word is the last not above the number. -/
theorem found_fieldOne (m : EReal) (h : 0 ≤ m) : Found m 1 (fieldOne m) := by
  have h0 : Found m (128 + 128) 0#32 := ⟨0, rfl, by omega, by rw [powWord_zero]; exact h, .inl rfl⟩
  exact (((((((h0.step (k := 128)).step (k := 64)).step (k := 32)).step (k := 16)).step (k := 8)).step (k := 4)).step (k := 2)).step (k := 1)

/-- The exponent of the scale, as a word. -/
def shiftOne (m : EReal) : BitVec 32 :=
  if fieldOne m = 0#32 ∨ fieldOne m = 255#32 then 0#32 else fieldOne m - 126#32

/-! ## The reference's exponent -/

/-- Zero for a number below the least normal one; otherwise the least whole number whose power of two is above it. -/
def expo (m : EReal) : EReal :=
  if m < powWord 1#32 then 0 else Ideal.liftRound Int.floor (Ideal.div (Ideal.log m) (Ideal.log (2 : ℝ))) + 1

/-- A real number in `[2 ^ z, 2 ^ (z + 1))` has `⌊log₂ r⌋ = z`. -/
theorem floor_log (r : ℝ) (z : ℤ) (h1 : (2 : ℝ) ^ z ≤ r) (h2 : r < (2 : ℝ) ^ (z + 1)) :
    Ideal.liftRound Int.floor (Ideal.div (Ideal.log (r : EReal)) (Ideal.log ((2 : ℝ) : EReal))) = ((z : ℝ) : EReal) := by
  have hr : 0 < r := lt_of_lt_of_le (by positivity) h1
  have hl : 0 < Real.log 2 := Real.log_pos (by norm_num)
  have e1 : Ideal.log (r : EReal) = ((Real.log r : ℝ) : EReal) := if_neg (not_le.mpr hr)
  have e2 : Ideal.log ((2 : ℝ) : EReal) = ((Real.log 2 : ℝ) : EReal) := if_neg (by norm_num)
  have e3 : Ideal.div ((Real.log r : ℝ) : EReal) ((Real.log 2 : ℝ) : EReal) = ((Real.log r / Real.log 2 : ℝ) : EReal) := by
    unfold Ideal.div
    rw [if_neg (by exact_mod_cast hl.ne'), ← EReal.coe_inv, ← EReal.coe_mul, div_eq_mul_inv]
  have e4 : ⌊Real.log r / Real.log 2⌋ = z := by
    rw [Int.floor_eq_iff]
    constructor
    · rw [le_div_iff₀ hl, ← Real.log_zpow]
      exact Real.log_le_log (by positivity) h1
    · rw [div_lt_iff₀ hl]
      have := Real.log_lt_log hr h2
      rw [Real.log_zpow] at this
      push_cast at this
      exact this
  rw [e1, e2, e3]
  show (((⌊Real.log r / Real.log 2⌋ : ℤ) : ℝ) : EReal) = _
  rw [e4]

/-! ## The two agree -/

/-- Either the number is below the least normal one and the shift is zero, or the field is from 1 to 252 and the
    reference's exponent is the field less 126. -/
theorem expo_cases (m : EReal) (h0 : 0 ≤ m) (h1 : m < powWord 253#32) :
    (shiftOne m = 0#32 ∧ expo m = 0) ∨
      ∃ n : Nat, 1 ≤ n ∧ n ≤ 252 ∧ shiftOne m = BitVec.ofNat 32 n - 126#32 ∧ expo m = (((n : ℤ) - 126 : ℤ) : ℝ) := by
  obtain ⟨n, hn, hle, hlo, hhi⟩ := found_fieldOne m h0
  have h253 : powWord 253#32 = (((2 : ℝ) ^ ((253 : ℕ) - 127 : ℤ) : ℝ) : EReal) := powWord_pow 253 (by omega) (by omega)
  have hn252 : n ≤ 252 := by
    by_contra hc
    by_cases e : n = 255
    · subst e
      have : powWord 255#32 = ⊤ := by simp [powWord, Ideal.ofBits, Ideal.ieee]
      rw [show BitVec.ofNat 32 255 = 255#32 from rfl, this, top_le_iff] at hlo
      rw [hlo] at h1
      exact absurd h1 not_top_lt
    · rw [powWord_pow n (by omega) (by omega)] at hlo
      have := lt_of_le_of_lt hlo h1
      rw [h253, EReal.coe_lt_coe_iff] at this
      have := (zpow_lt_zpow_iff_right₀ (by norm_num : (1 : ℝ) < 2)).mp this
      omega
  have hhi' : m < powWord (BitVec.ofNat 32 (n + 1)) := hhi.resolve_left (by omega)
  by_cases e : n = 0
  · subst e
    left
    refine ⟨if_pos (.inl (by rw [hn])), if_pos hhi'⟩
  · right
    refine ⟨n, by omega, hn252, ?_, ?_⟩
    · unfold shiftOne
      rw [hn, if_neg]
      rintro (hc | hc)
      · have := congrArg BitVec.toNat hc
        simp at this; omega
      · have := congrArg BitVec.toNat hc
        simp at this; omega
    · rw [powWord_pow n (by omega) (by omega)] at hlo
      rw [powWord_pow (n + 1) (by omega) (by omega)] at hhi'
      have hm : m = ((m.toReal : ℝ) : EReal) := (EReal.coe_toReal (ne_top_of_lt hhi') (ne_bot_of_gt (lt_of_lt_of_le (EReal.bot_lt_coe _) hlo))).symm
      rw [hm, EReal.coe_le_coe_iff] at hlo
      rw [hm, EReal.coe_lt_coe_iff] at hhi'
      unfold expo
      rw [if_neg, hm, floor_log m.toReal ((n : ℤ) - 127) hlo (by convert hhi' using 2; push_cast; ring)]
      · rw [← EReal.coe_one, ← EReal.coe_add]
        congr 1
        push_cast; ring
      · rw [not_lt, show (1#32 : BitVec 32) = BitVec.ofNat 32 1 from rfl, powWord_pow 1 (by omega) (by omega), hm, EReal.coe_le_coe_iff]
        refine le_trans ?_ hlo
        exact zpow_le_zpow_right₀ (by norm_num) (by push_cast; omega)

/-- Two to a whole number. -/
theorem exp2_int (z : ℤ) : Ideal.exp2 (((z : ℤ) : ℝ) : EReal) = (((2 : ℝ) ^ z : ℝ) : EReal) := by
  rw [Ideal.exp2_coe]
  congr 1
  exact Real.rpow_intCast 2 z

/-- The word the kernel builds for the scale is the reference's scale, -/
theorem scaleWord_eq (m : EReal) (h0 : 0 ≤ m) (h1 : m < powWord 253#32) : powWord (127#32 + shiftOne m) = Ideal.exp2 (expo m) := by
  rcases expo_cases m h0 h1 with ⟨hs, he⟩ | ⟨n, hn1, hn2, hs, he⟩
  · rw [hs, he, show (127#32 + 0#32 : BitVec 32) = BitVec.ofNat 32 127 from rfl, powWord_pow 127 (by omega) (by omega)]
    have := exp2_int 0
    simpa using this.symm
  · rw [hs, he, exp2_int, show 127#32 + (BitVec.ofNat 32 n - 126#32) = BitVec.ofNat 32 (n + 1) by
      apply BitVec.eq_of_toNat_eq; simp; omega, powWord_pow (n + 1) (by omega) (by omega)]
    congr 2; push_cast; ring
/-- and the word for its inverse is the reference's inverse. -/
theorem invWord_eq (m : EReal) (h0 : 0 ≤ m) (h1 : m < powWord 253#32) : powWord (127#32 - shiftOne m) = Ideal.exp2 (0 - expo m) := by
  rcases expo_cases m h0 h1 with ⟨hs, he⟩ | ⟨n, hn1, hn2, hs, he⟩
  · rw [hs, he, show (127#32 - 0#32 : BitVec 32) = BitVec.ofNat 32 127 from rfl, powWord_pow 127 (by omega) (by omega)]
    have := exp2_int 0
    simpa using this.symm
  · rw [hs, he, show (0 : EReal) - ((((n : ℤ) - 126 : ℤ) : ℝ) : EReal) = (((126 - (n : ℤ) : ℤ) : ℝ) : EReal) by
      rw [← EReal.coe_zero, ← EReal.coe_sub]; congr 1; push_cast; ring, exp2_int,
      show 127#32 - (BitVec.ofNat 32 n - 126#32) = BitVec.ofNat 32 (253 - n) by
      apply BitVec.eq_of_toNat_eq; simp; omega, powWord_pow (253 - n) (by omega) (by omega)]
    congr 2; push_cast [show n ≤ 253 by omega]; ring

end Cert.Proof.Wgrad

end
-- ==== Proof.Layout.lean ====
/-
  Arrays of 256 rows seen as two groups of 128 rows, at any number of columns: which element each reading of the array
  takes. And the sum that a matrix product contracting the rows of both operands computes.
-/
module

public import Idealize.ShloMosaic.PureOps.Ideal.Laws
public import Idealize.ShloMosaic.Lib.ValueLayout
public import Idealize.ShloMosaic.Lib.Pipeline.Value
public import Idealize.ShloMosaic.Lib.MatmulPlain

@[expose] public section

noncomputable section

namespace Cert.Proof.Wgrad

open Idealize.ShloMosaic ValueIdx

variable {α : Type} {C : Nat}

/-- Row `r` of group `g`. -/
def rowOf (g : Fin 2) (r : Fin 128) : Fin 256 := ⟨128 * g.val + r.val, by omega⟩
/-- The group of a row, -/
def grpOf (r : Fin 256) : Fin 2 := ⟨r.val / 128, by omega⟩
/-- and the row's place in its group. -/
def inGrp (r : Fin 256) : Fin 128 := ⟨r.val % 128, by omega⟩

theorem rowOf_grp (r : Fin 256) : rowOf (grpOf r) (inGrp r) = r := Fin.ext (show 128 * (r.val / 128) + r.val % 128 = r.val by omega)

/-- 256 rows cast to two groups of 128, read at group, row and column. -/
theorem cast_groups (x : (⟨2, ![256, C]⟩ : Shape).Idx → α) (h : (⟨2, ![256, C]⟩ : Shape).ShapeCasts ⟨3, ![2, 128, C]⟩)
    (g : Fin 2) (r : Fin 128) (l : Fin C) : shapeCast ⟨3, ![2, 128, C]⟩ x h (ix3 g r l) = x (ix2 (rowOf g r) l) :=
  shapeCast_apply x h _ _ (by
    rw [Shape.rowMajor_val_three, Shape.rowMajor_val_two]
    show (128 * g.val + r.val) * C + l.val = (g.val * 128 + r.val) * C + l.val
    rw [Nat.mul_comm 128])

/-- Two groups of 128 rows cast back to 256, read at row and column. -/
theorem cast_rows (x : (⟨3, ![2, 128, C]⟩ : Shape).Idx → α) (h : (⟨3, ![2, 128, C]⟩ : Shape).ShapeCasts ⟨2, ![256, C]⟩)
    (r : Fin 256) (l : Fin C) : shapeCast ⟨2, ![256, C]⟩ x h (ix2 r l) = x (ix3 (grpOf r) (inGrp r) l) :=
  shapeCast_apply x h _ _ (by
    rw [Shape.rowMajor_val_three, Shape.rowMajor_val_two]
    show (r.val / 128 * 128 + r.val % 128) * C + l.val = r.val * C + l.val
    rw [show r.val / 128 * 128 + r.val % 128 = r.val by omega])

/-- One row per group, with an axis of size one put between. -/
theorem cast_mid (x : (⟨2, ![2, C]⟩ : Shape).Idx → α) (h : (⟨2, ![2, C]⟩ : Shape).ShapeCasts ⟨3, ![2, 1, C]⟩)
    (g : Fin 2) (u : Fin 1) (l : Fin C) : shapeCast ⟨3, ![2, 1, C]⟩ x h (ix3 g u l) = x (ix2 g l) :=
  shapeCast_apply x h _ _ (by
    have hu : u.val = 0 := by omega
    rw [Shape.rowMajor_val_three, Shape.rowMajor_val_two]
    show g.val * C + l.val = (g.val * 1 + u.val) * C + l.val
    rw [hu, Nat.mul_one, Nat.add_zero])

/-- That axis repeated 128 times. -/
theorem broadcast_mid (x : (⟨3, ![2, 1, C]⟩ : Shape).Idx → α) (h : (⟨3, ![2, 1, C]⟩ : Shape).Broadcasts ⟨3, ![2, 128, C]⟩)
    (g : Fin 2) (r : Fin 128) (l : Fin C) : broadcastTo ⟨3, ![2, 128, C]⟩ x h (ix3 g r l) = x (ix3 g (0 : Fin 1) l) := by
  refine broadcastTo_apply x h _ _ fun a => ?_
  fin_cases a
  · rfl
  · rfl
  · show l.val = if C = 1 then 0 else l.val
    split
    · omega
    · rfl

/-- The greatest element over the rows of a group. -/
theorem groupMax_apply (x : FVec Ideal ⟨3, ![2, 128, C]⟩ .f32) (h : (⟨3, ![2, 128, C]⟩ : Shape).Reduces [1] ⟨2, ![2, C]⟩)
    (g : Fin 2) (l : Fin C) : multiReduction .maximumf [1] ⟨2, ![2, C]⟩ x 0xFF800000#32 h (.inl rfl) rfl (ix2 g l)
      = (Finset.univ : Finset (Fin 128)).fold max (Ideal.ofBits .f32 0xFF800000#32) fun r => x (ix3 g r l) := by
  refine (Ideal.multiReduction_maximumf_single x _ h _ _ _).trans ?_
  show (Finset.univ : Finset (Fin 128)).fold max (Ideal.ofBits .f32 0xFF800000#32) (x ∘ h.lift (ix2 g l)) = _
  congr 1
  funext r
  show x (h.lift (ix2 g l) r) = _
  congr 1
  funext a
  fin_cases a <;> rfl

/-- The greatest element of each column of 128 rows. -/
theorem colMax_apply (x : FVec Ideal ⟨2, ![128, C]⟩ .bf16) (h : (⟨2, ![128, C]⟩ : Shape).Reduces [0] ⟨1, ![C]⟩)
    (l : Fin C) : multiReduction .maximumf [0] ⟨1, ![C]⟩ x 0xFF80#16 h (.inr rfl) rfl (ix1 l)
      = (Finset.univ : Finset (Fin 128)).fold max (Ideal.ofBits .bf16 0xFF80#16) fun r => x (ix2 r l) := by
  refine (Ideal.multiReduction_maximumf_single x _ h _ _ _).trans ?_
  show (Finset.univ : Finset (Fin 128)).fold max (Ideal.ofBits .bf16 0xFF80#16) (x ∘ h.lift (ix1 l)) = _
  congr 1
  funext r
  show x (h.lift (ix1 l) r) = _
  congr 1
  funext a
  fin_cases a <;> rfl

end Cert.Proof.Wgrad

end
-- ==== Proof.Spec.lean ====
/-
  The quantised weight gradient over the extended reals, at any number of columns: per group of 128 rows and column a
  power-of-two scale, per element a code, and the products of the decoded arrays summed over the 256 rows. The kernel and
  the reference are both shown to compute these.
-/
module

public import proofs.«01_k».proof.Proof.Exponent
public import proofs.«01_k».proof.Proof.Layout

@[expose] public section

noncomputable section

namespace Cert.Proof.Wgrad

open Idealize.ShloMosaic ValueIdx

/-- The largest magnitude of 128 numbers, -/
def top (f : Fin 128 → EReal) : EReal := (Finset.univ : Finset (Fin 128)).fold max ⊥ fun r => max (f r) (-f r)
/-- and that times the number nearest to `1 / 448`. -/
def peak (f : Fin 128 → EReal) : EReal := top f * Ideal.ofBits .f32 0x3B124925#32

/-- A number clipped to the codes' range. -/
def clip (x : EReal) : EReal := min (Ideal.ofBits .f32 0x43E00000#32) (max (Ideal.ofBits .f32 0xC3E00000#32) x)

variable {C : Nat} (V : (⟨2, ![256, C]⟩ : Shape).Idx → EReal)

/-- Column `l` of group `g`. -/
def colOf (g : Fin 2) (l : Fin C) : Fin 128 → EReal := fun r => V (ix2 (rowOf g r) l)
/-- The exponent of its scale, -/
def expAt (g : Fin 2) (l : Fin C) : EReal := expo (peak (colOf V g l))
/-- its scale, -/
def scaleAt (g : Fin 2) (l : Fin C) : EReal := Ideal.exp2 (expAt V g l)
/-- the code of an element, -/
def codeAt (r : Fin 256) (l : Fin C) : EReal := clip (V (ix2 r l) * Ideal.exp2 (0 - expAt V (grpOf r) l))
/-- the element decoded, -/
def decAt (r : Fin 256) (l : Fin C) : EReal := codeAt V r l * scaleAt V (grpOf r) l
/-- and an element of the weight gradient. -/
def gradAt {D : Nat} (W : (⟨2, ![256, D]⟩ : Shape).Idx → EReal) (i : Fin C) (j : Fin D) : EReal := ∑ r : Fin 256, decAt V r i * decAt W r j

/-! ## Where the kernel's words are those powers -/

/-- Every magnitude is at most that of the largest finite bf16 number. -/
def Tame : Prop := ∀ i, max (V i) (-V i) ≤ Ideal.ofBits .bf16 0x7F7F#16
/-- The peak of every group and column is zero or at least the least normal number. -/
def Normal : Prop := ∀ (g : Fin 2) (l : Fin C), top (colOf V g l) = 0 ∨ powWord 1#32 ≤ peak (colOf V g l)

theorem ofBits_negInf32 : Ideal.ofBits .f32 0xFF800000#32 = ⊥ := by simp [Ideal.ofBits, Ideal.ieee]
theorem ofBits_negInf16 : Ideal.ofBits .bf16 0xFF80#16 = ⊥ := by simp [Ideal.ofBits, Ideal.ieee]
theorem ofBits_two : Ideal.ofBits .f32 0x40000000#32 = ((2 : ℝ) : EReal) := by
  simp [Ideal.ofBits, Ideal.ieee, -EReal.coe_mul]; norm_num
theorem ofBits_one : Ideal.ofBits .f32 0x3F800000#32 = 1 := by
  simp [Ideal.ofBits, Ideal.ieee, -EReal.coe_mul]
  norm_num
theorem ofBits_zero32 : Ideal.ofBits .f32 0x00000000#32 = 0 := by simp [Ideal.ofBits, Ideal.ieee]
theorem ofBits_least : Ideal.ofBits .f32 0x00800000#32 = powWord 1#32 := rfl
theorem ofBits_top16 : Ideal.ofBits .bf16 0x7F7F#16 = ((255 * 2 ^ 120 : ℝ) : EReal) := by
  simp [Ideal.ofBits, Ideal.ieee, -EReal.coe_mul]
theorem ofBits_448th : Ideal.ofBits .f32 0x3B124925#32 = ((9586981 / 2 ^ 32 : ℝ) : EReal) := by
  simp [Ideal.ofBits, Ideal.ieee, -EReal.coe_mul]; norm_num

/-- The peak of tame numbers is at least zero and below `2 ^ 126`. -/
theorem peak_range (f : Fin 128 → EReal) (h : ∀ r, max (f r) (-f r) ≤ Ideal.ofBits .bf16 0x7F7F#16) :
    0 ≤ peak f ∧ peak f < powWord 253#32 := by
  have hc : (0 : EReal) ≤ Ideal.ofBits .f32 0x3B124925#32 := by rw [ofBits_448th]; exact_mod_cast (by norm_num : (0 : ℝ) ≤ 9586981 / 2 ^ 32)
  have h0 : (0 : EReal) ≤ (Finset.univ : Finset (Fin 128)).fold max ⊥ (fun r => max (f r) (-f r)) := by
    rw [Finset.le_fold_max]
    refine .inr ⟨0, Finset.mem_univ _, ?_⟩
    rcases le_total 0 (f 0) with e | e
    · exact le_max_of_le_left e
    · exact le_max_of_le_right (EReal.neg_nonneg.mpr e)
  have h1 : (Finset.univ : Finset (Fin 128)).fold max ⊥ (fun r => max (f r) (-f r)) ≤ Ideal.ofBits .bf16 0x7F7F#16 := by
    rw [Finset.fold_max_le]
    exact ⟨bot_le, fun r _ => h r⟩
  refine ⟨mul_nonneg h0 hc, lt_of_le_of_lt (mul_le_mul_of_nonneg_right h1 hc) ?_⟩
  rw [ofBits_top16, ofBits_448th, show (253#32 : BitVec 32) = BitVec.ofNat 32 253 from rfl, powWord_pow 253 (by omega) (by omega),
    ← EReal.coe_mul, EReal.coe_lt_coe_iff]
  norm_num

variable {V}

/-- So for a tame array the words that the kernel builds are the scale, -/
theorem Tame.scale (h : Tame V) (g : Fin 2) (l : Fin C) : powWord (127#32 + shiftOne (peak (colOf V g l))) = scaleAt V g l :=
  scaleWord_eq _ (peak_range _ fun _ => h _).1 (peak_range _ fun _ => h _).2
/-- and its inverse. -/
theorem Tame.inv (h : Tame V) (g : Fin 2) (l : Fin C) :
    powWord (127#32 - shiftOne (peak (colOf V g l))) = Ideal.exp2 (0 - expAt V g l) :=
  invWord_eq _ (peak_range _ fun _ => h _).1 (peak_range _ fun _ => h _).2

end Cert.Proof.Wgrad

end
-- ==== Proof.KernelChunk.lean ====
/-
  The kernel's chunk over the extended reals, element by element.
-/
module

public import proofs.«01_k».proof.Proof.Chunk
public import proofs.«01_k».proof.Proof.Spec

@[expose] public section

noncomputable section

namespace Cert.Proof.Wgrad

open Cert.KernelIdeal Cert.KernelIdeal.Gen
open Idealize.ShloMosaic ValueIdx

variable (v w : FVec Ideal S128x256 .bf16)

/-- Column `l` of a chunk. -/
def chunkCol (l : Fin 256) : Fin 128 → EReal := fun r => v (ix2 r l)

/-- The largest magnitude of a column, scaled. -/
theorem cMax_apply (l : Fin 256) : cMax v (ix2 (0 : Fin 1) l) = peak (chunkCol v l) := by
  unfold cMax peak
  rw [mulf_apply, extf_apply, shapeCast_a_1a_apply, colMax_apply, ofBits_negInf16]
  rfl

/-- One step of the search at one column, -/
theorem probe_apply (m : FVec Ideal S1x256 .f32) (bit : BitVec 32) (e : IVec S1x256 32) (i : S1x256.Idx) :
    probe m bit e i = probeOne (m i) bit (e i) := by
  show Scalar.select (BitVec.ofBool (decide (m i < powWord (e i + bit)))) (e i) (e i + bit) = _
  unfold probeOne
  by_cases h : m i < powWord (e i + bit)
  · rw [if_pos h, decide_eq_true h]; rfl
  · rw [if_neg h, decide_eq_false h]; rfl

/-- the whole search, -/
theorem field_apply (m : FVec Ideal S1x256 .f32) (i : S1x256.Idx) : field m i = fieldOne (m i) := by
  unfold field fieldOne
  rw [probe_apply, probe_apply, probe_apply, probe_apply, probe_apply, probe_apply, probe_apply, probe_apply]
  rfl

/-- and the exponent it gives. -/
theorem shift_apply (m : FVec Ideal S1x256 .f32) (i : S1x256.Idx) : shift m i = shiftOne (m i) := by
  show Scalar.select (BitVec.ofBool (decide (field m i = 0#32)) ||| BitVec.ofBool (decide (field m i = 255#32))) 0#32 (field m i - 126#32) = _
  rw [field_apply]
  unfold shiftOne
  by_cases h0 : fieldOne (m i) = 0#32 <;> by_cases h1 : fieldOne (m i) = 255#32 <;> simp [h0, h1, Scalar.select]

/-- The scale of a column, -/
theorem cScale_apply (l : Fin 256) : cScale v (ix2 (0 : Fin 1) l) = powWord (127#32 + shiftOne (peak (chunkCol v l))) := by
  show powWord (127#32 + shift (cMax v) (ix2 (0 : Fin 1) l)) = _
  rw [shift_apply, cMax_apply]
/-- its inverse, -/
theorem cInv_apply (l : Fin 256) : cInv v (ix2 (0 : Fin 1) l) = powWord (127#32 - shiftOne (peak (chunkCol v l))) := by
  show powWord (127#32 - shift (cMax v) (ix2 (0 : Fin 1) l)) = _
  rw [shift_apply, cMax_apply]
/-- the codes, -/
theorem cCodes_apply (r : Fin 128) (l : Fin 256) :
    cCodes v (ix2 r l) = clip (v (ix2 r l) * powWord (127#32 - shiftOne (peak (chunkCol v l)))) := by
  show clip (v (ix2 r l) * broadcastTo S128x256 (cInv v) broadcasts_S1x256_S128x256 (ix2 r l)) = _
  rw [broadcastTo_1b_ab_apply, cInv_apply]
/-- and the codes decoded. -/
theorem cDeq_apply (r : Fin 128) (l : Fin 256) :
    cDeq v (ix2 r l) = clip (v (ix2 r l) * powWord (127#32 - shiftOne (peak (chunkCol v l)))) * powWord (127#32 + shiftOne (peak (chunkCol v l))) := by
  show cCodes v (ix2 r l) * broadcastTo S128x256 (cScale v) broadcasts_S1x256_S128x256 (ix2 r l) = _
  rw [broadcastTo_1b_ab_apply, cScale_apply, cCodes_apply]

/-- Two decoded chunks one above the other: a row of the first group, -/
theorem cPair_top (r : Fin 128) (l : Fin 256) : cPair v w (ix2 (rowOf 0 r) l) = cDeq v (ix2 r l) :=
  concatenate_pair_apply_left (t := S256x256) 0 (cDeq v) (cDeq w) concatenates_S128x256_S128x256_S256x256_d0 _ rfl (ix2 r l) fun b => by
    fin_cases b
    · show r.val = 128 * 0 + r.val; omega
    · rfl
/-- and of the second. -/
theorem cPair_bot (r : Fin 128) (l : Fin 256) : cPair v w (ix2 (rowOf 1 r) l) = cDeq w (ix2 r l) :=
  concatenate_pair_apply_right (t := S256x256) 0 (cDeq v) (cDeq w) concatenates_S128x256_S128x256_S256x256_d0 _ rfl rfl (ix2 r l)
    (fun b hb => by
      fin_cases b
      · exact absurd rfl hb
      · rfl)
    (by show r.val + 128 = 128 * 1 + r.val; omega)

/-- A tile of the weight gradient. -/
theorem cTile_apply (q d : FVec Ideal S256x256 .bf16) (i j : Fin 256) : cTile q d (ix2 i j) = ∑ r : Fin 256, q (ix2 r i) * d (ix2 r j) := by
  refine (Ideal.matmul_plain_apply (M := 256) (K := 256) (N := 256) none _ d (constant S256x256 .f32 0x00000000#32) i j).trans ?_
  show Ideal.ofBits .f32 0x00000000#32 + _ = _
  rw [ofBits_zero32, zero_add]
  refine Finset.sum_congr rfl fun r _ => ?_
  rw [transpose_ix2_apply]

end Cert.Proof.Wgrad

end
-- ==== Proof.KernelValue.lean ====
/-
  The kernel's five results over the extended reals, at tame arguments: the scales, the codes and the weight gradient that
  `Spec` names.
-/
module

public import proofs.«01_k».proof.Proof.KernelChunk
public import proofs.«01_k».proof.Proof.Values

@[expose] public section

noncomputable section

namespace Cert.Proof.Wgrad

open Cert.KernelIdeal Cert.KernelIdeal.Gen
open Idealize.ShloMosaic ValueIdx

/-! ## A chunk that holds a column of the array -/

theorem grpOf_rowOf (g : Fin 2) (r : Fin 128) : grpOf (rowOf g r) = g := Fin.ext (show (128 * g.val + r.val) / 128 = g.val by omega)

section Chunk
variable {C : Nat} {V : (⟨2, ![256, C]⟩ : Shape).Idx → EReal} (hV : Tame V) (v : FVec Ideal S128x256 .bf16) (g : Fin 2) (l : Fin C) (k : Fin 256)
  (hv : ∀ r : Fin 128, v (ix2 r k) = V (ix2 (rowOf g r) l))
include hV hv

/-- Column `k` of the chunk being column `l` of group `g`: its scale, -/
theorem chunk_scale : cScale v (ix2 (0 : Fin 1) k) = scaleAt V g l := by
  rw [cScale_apply, ← hV.scale]
  congr 4
  exact funext hv
/-- its codes, -/
theorem chunk_codes (r : Fin 128) : cCodes v (ix2 r k) = codeAt V (rowOf g r) l := by
  unfold codeAt
  rw [cCodes_apply, hv r, grpOf_rowOf, ← hV.inv, show chunkCol v k = colOf V g l from funext hv]
/-- and its decoded elements. -/
theorem chunk_deq (r : Fin 128) : cDeq v (ix2 r k) = decAt V (rowOf g r) l := by
  unfold decAt
  rw [← chunk_codes hV v g l k hv r, grpOf_rowOf, ← chunk_scale hV v g l k hv, cDeq_apply, cCodes_apply, cScale_apply]

/-- Of two chunks, one for each group: the decoded pair. -/
theorem pair_deq (w : FVec Ideal S128x256 .bf16) (hg : g = 0) (hw : ∀ r : Fin 128, w (ix2 r k) = V (ix2 (rowOf 1 r) l)) (r : Fin 256) :
    cPair v w (ix2 r k) = decAt V r l := by
  subst hg
  rw [← rowOf_grp r]
  obtain ⟨h, hlt⟩ := grpOf r
  match h, hlt with
  | 0, _ => exact (cPair_top v w (inGrp r) k).trans (chunk_deq hV v 0 l k hv _)
  | 1, _ => exact (cPair_bot v w (inGrp r) k).trans (chunk_deq hV w 1 l k hw _)
end Chunk

/-! ## The results -/

variable (V : S256x7168.Idx → Elt Ideal .bf16) (W : S256x2560.Idx → Elt Ideal .bf16)

/-- Block and place of a column of `x`, -/
def blkX (l : Fin 7168) : Fin 28 := ⟨l.val / 256, by omega⟩
/-- of a column of `dy`, -/
def blkDy (l : Fin 2560) : Fin 10 := ⟨l.val / 256, by omega⟩
/-- and of either. -/
def inBlk {n : Nat} (l : Fin n) : Fin 256 := ⟨l.val % 256, by omega⟩

theorem chunkX_col (g : Fin 2) (l : Fin 7168) (r : Fin 128) : chunkX V g (blkX l) (ix2 r (inBlk l)) = V (ix2 (rowOf g r) l) :=
  congrArg (fun t => V (ix2 (rowOf g r) t)) (Fin.ext (show 256 * (l.val / 256) + l.val % 256 = l.val by omega))
theorem chunkDy_col (g : Fin 2) (l : Fin 2560) (r : Fin 128) : chunkDy W g (blkDy l) (ix2 r (inBlk l)) = W (ix2 (rowOf g r) l) :=
  congrArg (fun t => W (ix2 (rowOf g r) t)) (Fin.ext (show 256 * (l.val / 256) + l.val % 256 = l.val by omega))

/-- The scales of `x`, -/
theorem xsVal_apply (hV : Tame (C := 7168) V) (g : Fin 2) (l : Fin 7168) : xsVal V (ix2 g l) = scaleAt (C := 7168) V g l :=
  chunk_scale (C := 7168) hV (chunkX V g (blkX l)) g l (inBlk l) (chunkX_col V g l)
/-- its codes, -/
theorem xcVal_apply (hV : Tame (C := 7168) V) (r : Fin 256) (l : Fin 7168) : xcVal V (ix2 r l) = codeAt (C := 7168) V r l :=
  (chunk_codes (C := 7168) hV (chunkX V (grpOf r) (blkX l)) (grpOf r) l (inBlk l) (chunkX_col V _ l) (inGrp r)).trans (by rw [rowOf_grp])
/-- the scales of `dy`, -/
theorem dysVal_apply (hW : Tame (C := 2560) W) (g : Fin 2) (l : Fin 2560) : dysVal W (ix2 g l) = scaleAt (C := 2560) W g l :=
  chunk_scale (C := 2560) hW (chunkDy W g (blkDy l)) g l (inBlk l) (chunkDy_col W g l)
/-- its codes, -/
theorem dycVal_apply (hW : Tame (C := 2560) W) (r : Fin 256) (l : Fin 2560) : dycVal W (ix2 r l) = codeAt (C := 2560) W r l :=
  (chunk_codes (C := 2560) hW (chunkDy W (grpOf r) (blkDy l)) (grpOf r) l (inBlk l) (chunkDy_col W _ l) (inGrp r)).trans (by rw [rowOf_grp])
/-- and the weight gradient. -/
theorem dwVal_apply (hV : Tame (C := 7168) V) (hW : Tame (C := 2560) W) (i : Fin 7168) (j : Fin 2560) :
    dwVal V W (ix2 i j) = gradAt (C := 7168) V (D := 2560) W i j := by
  show cTile (pairX V (blkX i)) (pairDy W (blkDy j)) (ix2 (inBlk i) (inBlk j)) = _
  rw [cTile_apply]
  refine Finset.sum_congr rfl fun r _ => ?_
  rw [show pairX V (blkX i) (ix2 r (inBlk i)) = decAt (C := 7168) V r i from
      pair_deq (C := 7168) hV _ 0 i (inBlk i) (chunkX_col V 0 i) _ rfl (chunkX_col V 1 i) r,
    show pairDy W (blkDy j) (ix2 r (inBlk j)) = decAt (C := 2560) W r j from
      pair_deq (C := 2560) hW _ 0 j (inBlk j) (chunkDy_col W 0 j) _ rfl (chunkDy_col W 1 j) r]

end Cert.Proof.Wgrad

end
-- ==== Proof.RefQuantise.lean ====
/-
  What the reference's body computes, over the extended reals and at any number of columns: its quantiser and its decoder,
  element by element. The body says them once for `x` and once for `dy`.
-/
module

public import proofs.«01_k».proof.Proof.Spec
public import Idealize.ShloMosaic.Lib.ValueIdx

@[expose] public section

noncomputable section

namespace Cert.Proof.Wgrad

open Idealize.ShloMosaic ValueIdx

variable {C : Nat} (hs : (⟨2, ![256, C]⟩ : Shape).ShapeCasts ⟨2, ![256, C]⟩) (hg : (⟨2, ![256, C]⟩ : Shape).ShapeCasts ⟨3, ![2, 128, C]⟩)
  (hr : (⟨3, ![2, 128, C]⟩ : Shape).Reduces [1] ⟨2, ![2, C]⟩) (hm : (⟨2, ![2, C]⟩ : Shape).ShapeCasts ⟨3, ![2, 1, C]⟩)
  (hb : (⟨3, ![2, 1, C]⟩ : Shape).Broadcasts ⟨3, ![2, 128, C]⟩) (hf : (⟨3, ![2, 128, C]⟩ : Shape).ShapeCasts ⟨2, ![256, C]⟩)
  (h1 : FTy.bits .bf16 < FTy.bits .f32) (h2 : FTy.bits .fp8e4m3 < FTy.bits .f32) (h3 : FTy.bits .fp8e4m3 < FTy.bits .bf16)

/-- The array as groups of 128 rows. -/
def rGroups (v : FVec Ideal ⟨2, ![256, C]⟩ .bf16) : FVec Ideal ⟨3, ![2, 128, C]⟩ .f32 :=
  shapeCast ⟨3, ![2, 128, C]⟩ (extf .f32 (shapeCast ⟨2, ![256, C]⟩ v hs) h1) hg
/-- The largest magnitude per group and column, -/
def rTop (v : FVec Ideal ⟨2, ![256, C]⟩ .bf16) : FVec Ideal ⟨2, ![2, C]⟩ .f32 :=
  multiReduction .maximumf [1] ⟨2, ![2, C]⟩ (absf (rGroups hs hg h1 v)) 0xFF800000#32 hr (.inl rfl) rfl
/-- and that scaled. -/
def rPeak (a : FVec Ideal ⟨2, ![2, C]⟩ .f32) : FVec Ideal ⟨2, ![2, C]⟩ .f32 :=
  mulf a (broadcast ⟨2, ![2, C]⟩ (Scalar.ofBits .f32 0x3B124925#32))
/-- The exponent of the scale, from the largest magnitude. -/
def rExpo (a : FVec Ideal ⟨2, ![2, C]⟩ .f32) : FVec Ideal ⟨2, ![2, C]⟩ .f32 :=
  select (cmpf .oeq a (broadcast ⟨2, ![2, C]⟩ (Scalar.ofBits .f32 0x00000000#32))) (broadcast ⟨2, ![2, C]⟩ (Scalar.ofBits .f32 0x00000000#32))
    (addf (floor (divf (log (rPeak a)) (log (broadcast ⟨2, ![2, C]⟩ (Scalar.ofBits .f32 0x40000000#32))))) (broadcast ⟨2, ![2, C]⟩ (Scalar.ofBits .f32 0x3F800000#32)))
/-- The codes of the grouped array at these exponents. -/
def rCodes (x : FVec Ideal ⟨3, ![2, 128, C]⟩ .f32) (e : FVec Ideal ⟨2, ![2, C]⟩ .f32) : FVec Ideal ⟨2, ![256, C]⟩ .fp8e4m3 :=
  shapeCast ⟨2, ![256, C]⟩ (truncf .fp8e4m3 (minimumf (broadcast ⟨3, ![2, 128, C]⟩ (Scalar.ofBits .f32 0x43E00000#32))
    (maximumf (broadcast ⟨3, ![2, 128, C]⟩ (Scalar.ofBits .f32 0xC3E00000#32))
      (mulf x (broadcastTo ⟨3, ![2, 128, C]⟩
        (shapeCast ⟨3, ![2, 1, C]⟩ (exp2 (subf (broadcast ⟨2, ![2, C]⟩ (Scalar.ofBits .f32 0x00000000#32)) e)) hm) hb)))) h2) hf
/-- The decoded array. -/
def rDec (q : FVec Ideal ⟨2, ![256, C]⟩ .fp8e4m3) (s : FVec Ideal ⟨2, ![2, C]⟩ .f32) : FVec Ideal ⟨2, ![256, C]⟩ .bf16 :=
  shapeCast ⟨2, ![256, C]⟩ (mulf (shapeCast ⟨3, ![2, 128, C]⟩ (extf .bf16 q h3) hg)
    (broadcastTo ⟨3, ![2, 128, C]⟩ (shapeCast ⟨3, ![2, 1, C]⟩ (truncf .bf16 s h1) hm) hb)) hf

theorem rGroups_apply (v : FVec Ideal ⟨2, ![256, C]⟩ .bf16) (g : Fin 2) (r : Fin 128) (l : Fin C) :
    rGroups hs hg h1 v (ix3 g r l) = v (ix2 (rowOf g r) l) := by
  unfold rGroups
  rw [cast_groups, extf_apply, shapeCast_self]

theorem rTop_apply (v : FVec Ideal ⟨2, ![256, C]⟩ .bf16) (g : Fin 2) (l : Fin C) :
    rTop hs hg hr h1 v (ix2 g l) = top (colOf v g l) := by
  unfold rTop top
  rw [groupMax_apply, ofBits_negInf32]
  congr 1
  funext r
  show max (rGroups hs hg h1 v (ix3 g r l)) (-rGroups hs hg h1 v (ix3 g r l)) = _
  rw [rGroups_apply]
  rfl

/-- The reference's exponent is zero where the peak is, and the logarithm's otherwise. -/
theorem rExpo_apply (a : FVec Ideal ⟨2, ![2, C]⟩ .f32) (i : (⟨2, ![2, C]⟩ : Shape).Idx) :
    rExpo a i = if a i = 0 then 0 else
      Ideal.liftRound Int.floor (Ideal.div (Ideal.log (a i * Ideal.ofBits .f32 0x3B124925#32)) (Ideal.log (2 : ℝ))) + 1 := by
  unfold rExpo
  rw [select_apply, addf_apply]
  show Scalar.select (BitVec.ofBool (decide (a i = Ideal.ofBits .f32 0x00000000#32))) (Ideal.ofBits .f32 0x00000000#32)
    (Ideal.liftRound Int.floor (Ideal.div (Ideal.log (a i * Ideal.ofBits .f32 0x3B124925#32)) (Ideal.log (Ideal.ofBits .f32 0x40000000#32)))
      + Ideal.ofBits .f32 0x3F800000#32) = _
  rw [ofBits_two, ofBits_one, ofBits_zero32]
  by_cases h : a i = 0
  · rw [if_pos h, decide_eq_true h]; rfl
  · rw [if_neg h, decide_eq_false h]; rfl

/-- Of an array whose peaks are zero or normal it is the exponent that `Spec` names. -/
theorem rExpo_normal {v : FVec Ideal ⟨2, ![256, C]⟩ .bf16} (hv : Normal v) (g : Fin 2) (l : Fin C) :
    rExpo (rTop hs hg hr h1 v) (ix2 g l) = expAt v g l := by
  rw [rExpo_apply, rTop_apply]
  unfold expAt expo
  have hpos : (0 : EReal) < powWord 1#32 := by
    rw [show (1#32 : BitVec 32) = BitVec.ofNat 32 1 from rfl, powWord_pow 1 (by omega) (by omega)]
    exact_mod_cast (by positivity : (0 : ℝ) < (2 : ℝ) ^ (((1 : ℕ) : ℤ) - 127))
  by_cases h : top (colOf v g l) = 0
  · rw [if_pos h, if_pos]
    unfold peak
    rw [h, zero_mul]
    exact hpos
  · rw [if_neg h, if_neg (not_lt.mpr ((hv g l).resolve_left h))]
    rfl

/-- The reference's scales, -/
theorem rScale_apply {v : FVec Ideal ⟨2, ![256, C]⟩ .bf16} (hv : Normal v) (g : Fin 2) (l : Fin C) :
    exp2 (rExpo (rTop hs hg hr h1 v)) (ix2 g l) = scaleAt v g l := by
  show Ideal.exp2 (rExpo (rTop hs hg hr h1 v) (ix2 g l)) = _
  rw [rExpo_normal hs hg hr h1 hv]
  rfl

/-- its codes, -/
theorem rCodes_apply {v : FVec Ideal ⟨2, ![256, C]⟩ .bf16} (hv : Normal v) (r : Fin 256) (l : Fin C) :
    rCodes hm hb hf h2 (rGroups hs hg h1 v) (rExpo (rTop hs hg hr h1 v)) (ix2 r l) = codeAt v r l := by
  unfold rCodes codeAt clip
  rw [cast_rows, truncf_apply, minimumf_apply, maximumf_apply, mulf_apply, broadcast_mid, cast_mid, rGroups_apply, rowOf_grp]
  show min (Ideal.ofBits .f32 0x43E00000#32) (max (Ideal.ofBits .f32 0xC3E00000#32)
    (v (ix2 r l) * Ideal.exp2 (Ideal.ofBits .f32 0x00000000#32 - rExpo (rTop hs hg hr h1 v) (ix2 (grpOf r) l)))) = _
  rw [rExpo_normal hs hg hr h1 hv, ofBits_zero32]

/-- and its decoded array. -/
theorem rDec_apply {v : FVec Ideal ⟨2, ![256, C]⟩ .bf16} (hv : Normal v) (r : Fin 256) (l : Fin C) :
    rDec hg hm hb hf h1 h3 (rCodes hm hb hf h2 (rGroups hs hg h1 v) (rExpo (rTop hs hg hr h1 v))) (exp2 (rExpo (rTop hs hg hr h1 v))) (ix2 r l)
      = decAt v r l := by
  unfold rDec decAt
  rw [cast_rows, mulf_apply, cast_groups, broadcast_mid, cast_mid, extf_apply, truncf_apply, rScale_apply hs hg hr h1 hv, rowOf_grp, rCodes_apply hs hg hr hm hb hf h1 h2 hv]

end Cert.Proof.Wgrad

end
-- ==== Proof.RefValue.lean ====
/-
  The reference's five results over the extended reals: the scales, the codes and the weight gradient that `Spec` names,
  of its two arguments flattened to 256 rows.
-/
module

public import proofs.«01_k».proof.Proof.RefQuantise
public import proofs.«01_k».proof.Proof.Gen.ReferenceIdeal.Frame
public import Idealize.ShloMosaic.Lib.Pipeline.ValueKit
public import Idealize.ShloMosaic.Lib.Claim

@[expose] public section

noncomputable section

namespace Cert.Proof.Wgrad.Ref

open Cert.ReferenceIdeal Cert.ReferenceIdeal.Gen
open Idealize.ShloMosaic hiding ix2 ix3
open Idealize.ShloMosaic.TcCoe Idealize.SL.Sem ValueIdx

/-! ## The body's payloads -/

variable (x : Vec Ideal S256x7168 .bf16) (y : Vec Ideal S256x2560 .bf16)

/-- Exponents, codes and decoded elements of `x`, -/
def xE : FVec Ideal S2x7168 .f32 :=
  rExpo (rTop shapeCasts_S256x7168_S256x7168 shapeCasts_S256x7168_S2x128x7168 reduces_S2x128x7168_S2x7168 bitsLt_bf16_f32 x)
def xC : FVec Ideal S256x7168 .fp8e4m3 :=
  rCodes shapeCasts_S2x7168_S2x1x7168 broadcasts_S2x1x7168_S2x128x7168 shapeCasts_S2x128x7168_S256x7168 bitsLt_fp8e4m3_f32
    (rGroups shapeCasts_S256x7168_S256x7168 shapeCasts_S256x7168_S2x128x7168 bitsLt_bf16_f32 x) (xE x)
def xD : FVec Ideal S256x7168 .bf16 :=
  rDec shapeCasts_S256x7168_S2x128x7168 shapeCasts_S2x7168_S2x1x7168 broadcasts_S2x1x7168_S2x128x7168 shapeCasts_S2x128x7168_S256x7168
    bitsLt_bf16_f32 bitsLt_fp8e4m3_bf16 (xC x) (exp2 (xE x))
/-- and of `dy`. -/
def yE : FVec Ideal S2x2560 .f32 :=
  rExpo (rTop shapeCasts_S256x2560_S256x2560 shapeCasts_S256x2560_S2x128x2560 reduces_S2x128x2560_S2x2560 bitsLt_bf16_f32 y)
def yC : FVec Ideal S256x2560 .fp8e4m3 :=
  rCodes shapeCasts_S2x2560_S2x1x2560 broadcasts_S2x1x2560_S2x128x2560 shapeCasts_S2x128x2560_S256x2560 bitsLt_fp8e4m3_f32
    (rGroups shapeCasts_S256x2560_S256x2560 shapeCasts_S256x2560_S2x128x2560 bitsLt_bf16_f32 y) (yE y)
def yD : FVec Ideal S256x2560 .bf16 :=
  rDec shapeCasts_S256x2560_S2x128x2560 shapeCasts_S2x2560_S2x1x2560 broadcasts_S2x1x2560_S2x128x2560 shapeCasts_S2x128x2560_S256x2560
    bitsLt_bf16_f32 bitsLt_fp8e4m3_bf16 (yC y) (exp2 (yE y))

theorem pay3_eq : k0_pay3 x = exp2 (xE x) := rfl
theorem pay4_eq : k0_pay4 x = xC x := rfl
theorem pay10_eq : k0_pay10 (k0_pay7 y) (k0_pay8 y) (Scalar.ofBits .f32 0x40000000#32) = exp2 (yE y) := rfl
theorem pay11_eq : k0_pay11 (k0_pay5 y) (k0_pay7 y) (k0_pay8 y) (Scalar.ofBits .f32 0x40000000#32) = yC y := rfl
theorem pay12_eq : k0_pay12 (k0_pay3 x) (k0_pay4 x) (k0_pay5 y) (k0_pay7 y) (k0_pay8 y) (Scalar.ofBits .f32 0x40000000#32)
    = matmul dot_S256x7168_S256x2560_S7168x2560_0_0_1_1_n_n none (xD x) (yD y) (constant S7168x2560 .f32 0x00000000#32) := rfl

/-- The product that contracts the rows of both operands. -/
theorem dot_apply (q : FVec Ideal S256x7168 .bf16) (d : FVec Ideal S256x2560 .bf16) (i : Fin 7168) (j : Fin 2560) :
    matmul dot_S256x7168_S256x2560_S7168x2560_0_0_1_1_n_n none q d (constant S7168x2560 .f32 0x00000000#32) (ix2 i j)
      = ∑ r : Fin 256, q (ix2 r i) * d (ix2 r j) := by
  have hr : (dot_S256x7168_S256x2560_S7168x2560_0_0_1_1_n_n).contr.rank = 1 := rfl
  have hz : (dot_S256x7168_S256x2560_S7168x2560_0_0_1_1_n_n).contr.size ⟨0, by rw [hr]; exact Nat.one_pos⟩ = 256 := rfl
  show FloatOps.matmul dot_S256x7168_S256x2560_S7168x2560_0_0_1_1_n_n none q d (constant S7168x2560 .f32 0x00000000#32) (ix2 i j) = _
  rw [Ideal.matmul_apply, ← Equiv.sum_comp (contrEquiv1 _ 256 hr hz).symm, ValueIdx.constant_apply, ofBits_zero32, zero_add]
  refine Finset.sum_congr rfl fun k _ => ?_
  have hk := contrEquiv1_symm_val _ 256 hr hz k
  have el : (dot_S256x7168_S256x2560_S7168x2560_0_0_1_1_n_n).lhsIdx (ix2 i j) ((contrEquiv1 _ 256 hr hz).symm k) = ix2 k i := by
    funext a; apply Fin.ext
    match a with
    | ⟨0, _⟩ => exact hk
    | ⟨1, _⟩ => rfl
  have er : (dot_S256x7168_S256x2560_S7168x2560_0_0_1_1_n_n).rhsIdx (ix2 i j) ((contrEquiv1 _ 256 hr hz).symm k) = ix2 k j := by
    funext a; apply Fin.ext
    match a with
    | ⟨0, _⟩ => exact hk
    | ⟨1, _⟩ => rfl
  rw [el, er]

/-- The weight gradient that the body stores. -/
theorem grad_apply {x : Vec Ideal S256x7168 .bf16} {y : Vec Ideal S256x2560 .bf16} (hx : Normal (C := 7168) x) (hy : Normal (C := 2560) y) (i : Fin 7168) (j : Fin 2560) :
    matmul dot_S256x7168_S256x2560_S7168x2560_0_0_1_1_n_n none (xD x) (yD y) (constant S7168x2560 .f32 0x00000000#32) (ix2 i j)
      = gradAt (C := 7168) x (D := 2560) y i j := by
  rw [dot_apply]
  refine Finset.sum_congr rfl fun r _ => ?_
  rw [show xD x (ix2 r i) = decAt (C := 7168) x r i from rDec_apply _ _ _ _ _ _ _ _ _ hx r i,
    show yD y (ix2 r j) = decAt (C := 2560) y r j from rDec_apply _ _ _ _ _ _ _ _ _ hy r j]

/-! ## The arrays after the run -/

variable (m : (ℓ : Loc nD τ sig) → Buf (Elt Ideal) ℓ) (ρ : Dev nD → PrngReg)

/-- The two arguments, flattened to 256 rows, as the body finds them. -/
def xIn (c : Dev nD) : Vec Ideal S256x7168 .bf16 := shapeCast S256x7168 (m ((c : Thread nD τ).loc main_arg0)) shapeCasts_S1x256x7168_S256x7168
def dyIn (c : Dev nD) : Vec Ideal S256x2560 .bf16 := shapeCast S256x2560 (m ((c : Thread nD τ).loc main_arg1)) shapeCasts_S1x256x2560_S256x2560

theorem V_x (c : Dev nD) : V m c main_v0 = xIn m c := by
  entry_read
  rfl
theorem V_dy (c : Dev nD) : V m c main_v1 = dyIn m c := by
  entry_read
  rfl

/-- Every window is its whole array. -/
theorem idx : ∀ t : Fin cfg0.N, win0_0.index t = ![0, 0] ∧ win0_1.index t = ![0, 0] :=
  (by decide +kernel : ∀ t : Fin grid0.N, _)

theorem iblk_x (c : Dev nD) : iblk m c 0 t0_0 = xIn m c := by
  rw [← V_x]
  blk_ext! [iblk, idx t0_0]
theorem iblk_dy (c : Dev nD) : iblk m c 1 t0_0 = dyIn m c := by
  rw [← V_dy]
  blk_ext! [iblk, idx t0_0]

/-- The weight gradient of the decoded arrays. -/
def grad (x : Vec Ideal S256x7168 .bf16) (y : Vec Ideal S256x2560 .bf16) : FVec Ideal S7168x2560 .f32 :=
  matmul dot_S256x7168_S256x2560_S7168x2560_0_0_1_1_n_n none (xD x) (yD y) (constant S7168x2560 .f32 0x00000000#32)

/-- The weight gradient after the run. -/
theorem final_dw (c : Dev nD) : (dats m 0 c).arrAt 2 cfg0.N = grad (xIn m c) (dyIn m c) := by
  refine (dats m 0 c).arrAt_eq_of_after_last 2 t0_0 (by decide +kernel) _ fun j => ?_
  blk_simp
  rw [after0_2]
  unfold_out out0_2
  frame_out
  rw [iblk_x, iblk_dy]
  exact congrFun (pay12_eq _ _) j

/-- The codes of `x` after the run. -/
theorem final_xc (c : Dev nD) : (dats m 0 c).arrAt 3 cfg0.N = xC (xIn m c) := by
  refine (dats m 0 c).arrAt_eq_of_after_last 3 t0_0 (by decide +kernel) _ fun j => ?_
  blk_simp
  rw [after0_3]
  unfold_out out0_3
  frame_out
  rw [iblk_x]
  exact congrFun (pay4_eq _) j

/-- The scales of `x` after the run. -/
theorem final_xs (c : Dev nD) : (dats m 0 c).arrAt 4 cfg0.N = exp2 (xE (xIn m c)) := by
  refine (dats m 0 c).arrAt_eq_of_after_last 4 t0_0 (by decide +kernel) _ fun j => ?_
  blk_simp
  rw [after0_4]
  unfold_out out0_4
  frame_out
  rw [iblk_x]
  exact congrFun (pay3_eq _) j

/-- The codes of `dy` after the run. -/
theorem final_dyc (c : Dev nD) : (dats m 0 c).arrAt 5 cfg0.N = yC (dyIn m c) := by
  refine (dats m 0 c).arrAt_eq_of_after_last 5 t0_0 (by decide +kernel) _ fun j => ?_
  blk_simp
  rw [after0_5]
  unfold_out out0_5
  frame_out
  rw [iblk_dy]
  exact congrFun (pay11_eq _) j

/-- The scales of `dy` after the run. -/
theorem final_dys (c : Dev nD) : (dats m 0 c).arrAt 6 cfg0.N = exp2 (yE (dyIn m c)) := by
  refine (dats m 0 c).arrAt_eq_of_after_last 6 t0_0 (by decide +kernel) _ fun j => ?_
  blk_simp
  rw [after0_6]
  unfold_out out0_6
  frame_out
  rw [iblk_dy]
  exact congrFun (pay10_eq _) j

/-- The reference runs from any memory, and its five results hold what its body computes of the flattened arguments. -/
theorem run : θ_run defs (onTc (τ := τ) (main (F := Ideal))) ⟨m, fun _ => 0, ρ⟩ fun r => ∀ c : Dev nD,
      r.2.mem ((c : Thread nD τ).loc main_v2_0) = grad (xIn m c) (dyIn m c)
      ∧ r.2.mem ((c : Thread nD τ).loc main_v2_1) = xC (xIn m c)
      ∧ r.2.mem ((c : Thread nD τ).loc main_v2_2) = exp2 (xE (xIn m c))
      ∧ r.2.mem ((c : Thread nD τ).loc main_v2_3) = yC (dyIn m c)
      ∧ r.2.mem ((c : Thread nD τ).loc main_v2_4) = exp2 (yE (dyIn m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).1 2).trans (final_dw m c), ((h c).1 3).trans (final_xc m c), ((h c).1 4).trans (final_xs m c),
        ((h c).1 5).trans (final_dyc m c), ((h c).1 6).trans (final_dys m c),
        ((h c).2 main_arg0 (Pipeline.mem_restRefs_of main_arg0 (by decide) (by decide))).trans (V_main_arg0 m c),
        ((h c).2 main_arg1 (Pipeline.mem_restRefs_of main_arg1 (by decide) (by decide))).trans (V_main_arg1 m c)⟩)
    (run_main m ρ)

end Cert.Proof.Wgrad.Ref

end
-- ==== Proof.Precondition.lean ====
/-
  What the precondition says of one argument flattened to 256 rows: its magnitudes are bounded, and its peaks are zero or
  normal numbers.
-/
module

public import proofs.«01_k».proof.Proof.Spec
public import Idealize.ShloMosaic.Lib.KernelVsHost
public import Idealize.ShloMosaic.Lib.ValueIdx
public import Idealize.ShloMosaic.Lib.Pointwise

@[expose] public section

noncomputable section

namespace Cert.Proof.Wgrad

open Idealize.ShloMosaic hiding ix2 ix3
open ValueIdx

variable {s u : Shape} {C : Nat}

/-- An array that passes the comparison with the largest finite bf16 number is tame. -/
theorem tame_of_le (a b : FVec Ideal s .bf16) (hb : ∀ i, b i = Ideal.ofBits .bf16 0x7F7F#16)
    (h : cmpf .ole (Host.absf a) b = fun _ => 1#1) (hc : s.ShapeCasts ⟨2, ![256, C]⟩) :
    Tame (C := C) (shapeCast ⟨2, ![256, C]⟩ a hc) := by
  have key : ∀ i, max (a i) (-(a i)) ≤ Ideal.ofBits .bf16 0x7F7F#16 := by
    intro i
    have hi : BitVec.ofBool (decide (max (a i) (-(a i)) ≤ b i)) = 1#1 := congrFun h i
    rw [hb] at hi
    by_contra hn
    rw [decide_eq_false hn] at hi
    exact absurd hi (by decide)
  exact fun i => key _

/-- The greatest element over the rows of a group, as the precondition takes it. -/
theorem hostMax_apply (x : FVec Ideal ⟨3, ![2, 128, C]⟩ .f32) (hr : (⟨3, ![2, 128, C]⟩ : Shape).ReducesTo [1] ⟨2, ![2, C]⟩)
    (hr' : (⟨3, ![2, 128, C]⟩ : Shape).Reduces [1] ⟨2, ![2, C]⟩) (hu : 0 < u.numel) (g : Fin 2) (l : Fin C) :
    Host.reduce (FloatOps.maximumf (F := Ideal) (φ := .f32)) x (constant u .f32 0xFF800000#32) hr hu (ix2 g l)
      = (Finset.univ : Finset (Fin 128)).fold max (Ideal.ofBits .f32 0xFF800000#32) fun r => x (ix3 g r l) := by
  rw [hostReduce_maximumf_eq_multiReduction x 0xFF800000#32 hr hu hr' (.inl rfl) rfl]
  exact groupMax_apply x hr' g l

/-- The largest magnitude per group and column, as the precondition takes it. -/
theorem hostTop_apply (a : FVec Ideal s .bf16) (hx : FTy.bits .bf16 < FTy.bits .f32) (h3 : s.ShapeCasts ⟨3, ![2, 128, C]⟩)
    (hc : s.ShapeCasts ⟨2, ![256, C]⟩) (hg : (⟨2, ![256, C]⟩ : Shape).ShapeCasts ⟨3, ![2, 128, C]⟩)
    (hr : (⟨3, ![2, 128, C]⟩ : Shape).ReducesTo [1] ⟨2, ![2, C]⟩) (hr' : (⟨3, ![2, 128, C]⟩ : Shape).Reduces [1] ⟨2, ![2, C]⟩)
    (hu : 0 < u.numel) (g : Fin 2) (l : Fin C) :
    Host.reduce (FloatOps.maximumf (F := Ideal) (φ := .f32)) (Host.absf (shapeCast ⟨3, ![2, 128, C]⟩ (extf .f32 a hx) h3)) (constant u .f32 0xFF800000#32) hr hu (ix2 g l)
      = top (colOf (shapeCast ⟨2, ![256, C]⟩ a hc) g l) := by
  refine (hostMax_apply _ hr hr' hu g l).trans ?_
  rw [ofBits_negInf32]
  unfold top
  congr 1
  funext r
  have e : shapeCast ⟨3, ![2, 128, C]⟩ (extf (F := Ideal) .f32 a hx) h3 (ix3 g r l) = shapeCast ⟨2, ![256, C]⟩ a hc (ix2 (rowOf g r) l) := by
    rw [← cast_groups (shapeCast ⟨2, ![256, C]⟩ a hc) hg, shapeCast_comp]
    rfl
  show max (shapeCast ⟨3, ![2, 128, C]⟩ (extf (F := Ideal) .f32 a hx) h3 (ix3 g r l)) (-shapeCast ⟨3, ![2, 128, C]⟩ (extf (F := Ideal) .f32 a hx) h3 (ix3 g r l)) = _
  rw [e]
  rfl

/-- An array whose largest magnitudes pass the test of the precondition has peaks that are zero or normal. -/
theorem normal_of_or (V : (⟨2, ![256, C]⟩ : Shape).Idx → EReal) (A z k n : FVec Ideal ⟨2, ![2, C]⟩ .f32)
    (hA : ∀ (g : Fin 2) (l : Fin C), A (ix2 g l) = top (colOf V g l)) (hz : ∀ i, z i = Ideal.ofBits .f32 0x00000000#32)
    (hk : ∀ i, k i = Ideal.ofBits .f32 0x3B124925#32) (hn : ∀ i, n i = Ideal.ofBits .f32 0x00800000#32)
    (h : ori (cmpf .oeq A z) (cmpf .oge (mulf A k) n) = fun _ => 1#1) : Normal V := by
  intro g l
  have hi : BitVec.ofBool (decide (A (ix2 g l) = z (ix2 g l))) ||| BitVec.ofBool (decide (n (ix2 g l) ≤ A (ix2 g l) * k (ix2 g l))) = 1#1 :=
    congrFun h (ix2 g l)
  rw [hA, hz, hk, hn, ofBits_zero32, ofBits_least] at hi
  by_contra hne
  rw [not_or] at hne
  unfold peak at hne
  rw [decide_eq_false hne.1, decide_eq_false hne.2] at hi
  exact absurd hi (by decide)

end Cert.Proof.Wgrad

end
-- ==== Proof.Equation.lean ====
/-
  The equation: over the extended reals, at arguments whose every magnitude is at most that of the largest finite bf16
  number and whose peaks are zero or normal, the kernel's five results are the reference's.
-/
module

public import proofs.«01_k».proof.Defs
public import proofs.«01_k».proof.Proof.Frames
public import proofs.«01_k».proof.Proof.KernelValue
public import proofs.«01_k».proof.Proof.RefValue
public import proofs.«01_k».proof.Proof.Precondition
public import proofs.«01_k».proof.Proof.Gen.Pre_normal

@[expose] public section

noncomputable section

namespace Cert.Proof

open Idealize.ShloMosaic hiding ix2 ix3 eq_ix2
open Idealize.ShloMosaic.TcCoe Idealize.SL.Sem ValueIdx

attribute [local instance] Cert.KernelIdeal.Gen.facts Cert.ReferenceIdeal.Gen.facts Cert.Pre_normal.Gen.facts

namespace Wgrad

/-! ## The five arrays -/

section Arrays
open Cert.KernelIdeal
variable {V : Vec Ideal S256x7168 .bf16} {W : Vec Ideal S256x2560 .bf16} (hV : Tame (C := 7168) V) (hW : Tame (C := 2560) W)
  (nV : Normal (C := 7168) V) (nW : Normal (C := 2560) W)

include hV nV in
/-- The scales of `x`, -/
theorem xs_eq : xsVal V = exp2 (Ref.xE V) := by
  funext i
  rw [eq_ix2 i]
  exact (xsVal_apply V hV _ _).trans (rScale_apply _ _ _ _ nV _ _).symm
include hV nV in
/-- its codes, -/
theorem xc_eq : xcVal V = Ref.xC V := by
  funext i
  rw [eq_ix2 i]
  exact (xcVal_apply V hV _ _).trans (rCodes_apply _ _ _ _ _ _ _ _ nV _ _).symm
include hW nW in
/-- the scales of `dy`, -/
theorem dys_eq : dysVal W = exp2 (Ref.yE W) := by
  funext i
  rw [eq_ix2 i]
  exact (dysVal_apply W hW _ _).trans (rScale_apply _ _ _ _ nW _ _).symm
include hW nW in
/-- its codes, -/
theorem dyc_eq : dycVal W = Ref.yC W := by
  funext i
  rw [eq_ix2 i]
  exact (dycVal_apply W hW _ _).trans (rCodes_apply _ _ _ _ _ _ _ _ nW _ _).symm
include hV hW nV nW in
/-- and the weight gradient. -/
theorem dw_eq : dwVal V W = Ref.grad V W := by
  funext i
  rw [eq_ix2 i]
  exact (dwVal_apply V W hV hW _ _).trans (Ref.grad_apply nV nW _ _).symm
end Arrays

/-! ## The arguments -/

/-- The kernel finds its arguments flattened to 256 rows. -/
theorem xIn_eq (m : (ℓ : Loc Cert.KernelIdeal.nD Cert.KernelIdeal.τ Cert.KernelIdeal.sig) → Buf (Elt Ideal) ℓ) (c : Dev Cert.KernelIdeal.nD) :
    xIn m c = shapeCast Cert.KernelIdeal.S256x7168 (m ((c.tc : Thread Cert.KernelIdeal.nD Cert.KernelIdeal.τ).loc Cert.KernelIdeal.main_arg0))
      Cert.KernelIdeal.Gen.shapeCasts_S1x256x7168_S256x7168 := by
  show Cert.KernelIdeal.Gen.V m c Cert.KernelIdeal.main_v0 = _
  entry_read
  rfl
theorem dyIn_eq (m : (ℓ : Loc Cert.KernelIdeal.nD Cert.KernelIdeal.τ Cert.KernelIdeal.sig) → Buf (Elt Ideal) ℓ) (c : Dev Cert.KernelIdeal.nD) :
    dyIn m c = shapeCast Cert.KernelIdeal.S256x2560 (m ((c.tc : Thread Cert.KernelIdeal.nD Cert.KernelIdeal.τ).loc Cert.KernelIdeal.main_arg1))
      Cert.KernelIdeal.Gen.shapeCasts_S1x256x2560_S256x2560 := by
  show Cert.KernelIdeal.Gen.V m c Cert.KernelIdeal.main_v1 = _
  entry_read
  rfl

end Wgrad

open Wgrad

/-- From arguments that satisfy the precondition the kernel's five results and the reference's are equal. -/
theorem algebraic : Cert.algebraic_KernelIdeal_ReferenceIdeal_pre_normal := by
  intro m g m' g' hpre hargs
  have tx : ∀ c, Tame (C := 7168) (xIn m c) := fun c => by
    rw [xIn_eq]
    exact tame_of_le _ _ (fun _ => rfl) (hpre c).1 _
  have ty : ∀ c, Tame (C := 2560) (dyIn m c) := fun c => by
    rw [dyIn_eq]
    exact tame_of_le _ _ (fun _ => rfl) (hpre c).2.1 _
  have nx : ∀ c, Normal (C := 7168) (xIn m c) := fun c => by
    rw [xIn_eq]
    exact normal_of_or _ _ _ _ _ (hostTop_apply _ _ _ _ Cert.ReferenceIdeal.Gen.shapeCasts_S256x7168_S2x128x7168 _
      Cert.ReferenceIdeal.Gen.reduces_S2x128x7168_S2x7168 _) (fun _ => rfl) (fun _ => rfl) (fun _ => rfl) (hpre c).2.2.1
  have ny : ∀ c, Normal (C := 2560) (dyIn m c) := fun c => by
    rw [dyIn_eq]
    exact normal_of_or _ _ _ _ _ (hostTop_apply _ _ _ _ Cert.ReferenceIdeal.Gen.shapeCasts_S256x2560_S2x128x2560 _
      Cert.ReferenceIdeal.Gen.reduces_S2x128x2560_S2x2560 _) (fun _ => rfl) (fun _ => rfl) (fun _ => rfl) (hpre c).2.2.2
  have ex : ∀ c, Ref.xIn m' c = xIn m c := fun c => by
    rw [xIn_eq, ← (hargs c).1]
    rfl
  have ey : ∀ c, Ref.dyIn m' c = dyIn m c := fun c => by
    rw [dyIn_eq, ← (hargs c).2]
    rfl
  refine ⟨fun c => dwVal (xIn m c) (dyIn m c), fun c => xcVal (xIn m c), fun c => xsVal (xIn m c), fun c => dycVal (dyIn m c),
    fun c => dysVal (dyIn m c), ?_, ?_⟩
  · exact (θ_run _ _ _).mono (fun _ h => h.1) (Wgrad.run_main m g)
  · refine (θ_run _ _ _).mono (fun _ h c => ?_) (Ref.run m' g')
    obtain ⟨h0, h1, h2, h3, h4, hk⟩ := h c
    rw [ex, ey] at h0
    rw [ex] at h1 h2
    rw [ey] at h3 h4
    exact ⟨h0.trans (dw_eq (tx c) (ty c) (nx c) (ny c)).symm, h1.trans (xc_eq (tx c) (nx c)).symm, h2.trans (xs_eq (tx c) (nx c)).symm,
      h3.trans (dyc_eq (ty c) (ny c)).symm, h4.trans (dys_eq (ty c) (ny c)).symm, hk⟩

end Cert.Proof

end
-- ==== Proof.lean ====
/-
  The certificate: the frames of the kernel (as compiled and as idealized) and of the reference, what relates the two
  forms of the kernel, and the equality of the kernel's five results with the reference's.
-/
module

public import proofs.«01_k».proof.Defs
public import proofs.«01_k».proof.Proof.Frames
public import proofs.«01_k».proof.Proof.Equation
public import proofs.«01_k».proof.Proof.Gen.ReferenceIdeal.Frame
public import proofs.«01_k».proof.Proof.Gen.Pre_normal

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts, Cert.Pre_normal.Gen.facts,
    fun m g _ => frame_Kernel m g, fun m g _ => frame_KernelIdeal m g, fun m g _ => frame_KernelIdeal m g,
    fun m g _ => Cert.ReferenceIdeal.Gen.frame m g, fun m g _ => Cert.ReferenceIdeal.Gen.frame m g, trivial, algebraic⟩

end Cert.Proof

end
